-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook [hPre_codebook : Cert.Pre_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook [hPre_codebook : Cert.Pre_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_codebook [hKernelIdeal : Cert.KernelIdeal.Facts] [hPre_codebook : Cert.Pre_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codebook [hReferenceIdeal : Cert.ReferenceIdeal.Facts] [hPre_codebook : Cert.Pre_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_codebook [hKernelIdeal : Cert.KernelIdeal.Facts] [hReferenceIdeal : Cert.ReferenceIdeal.Facts] [hPre_codebook : Cert.Pre_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_codebook : Cert.Pre_codebook.Facts),
    quiescent_Kernel (hKernel := hKernel)
    ∧ quiescent_KernelIdeal (hKernelIdeal := hKernelIdeal)
    ∧ quiescent_KernelIdeal_pre_codebook (hKernelIdeal := hKernelIdeal) (hPre_codebook := hPre_codebook)
    ∧ quiescent_ReferenceIdeal (hReferenceIdeal := hReferenceIdeal)
    ∧ quiescent_ReferenceIdeal_pre_codebook (hReferenceIdeal := hReferenceIdeal) (hPre_codebook := hPre_codebook)
    ∧ preserves_Kernel_KernelIdeal
    ∧ algebraic_KernelIdeal_ReferenceIdeal_pre_codebook (hKernelIdeal := hKernelIdeal) (hReferenceIdeal := hReferenceIdeal) (hPre_codebook := hPre_codebook)
-- ==== Pre_codebook.lean ====
abbrev S65536x1024 : Shape := ⟨2, ![65536, 1024]⟩
abbrev S1024 : Shape := ⟨1, ![1024]⟩
abbrev S16 : Shape := ⟨1, ![16]⟩
abbrev S15 : Shape := ⟨1, ![15]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S16 : S_.BroadcastsInDim S16 (![] : Fin 0 → Fin S16.rank)
  reducesTo_S16_S_d0 : S16.ReducesTo [0] S_
  slices_S16_S15_0 : S16.Slices ![0] S15
  slices_S16_S15_1 : S16.Slices ![1] S15
  reducesTo_S15_S_d0 : S15.ReducesTo [0] S_
  bcast_S_S15 : S_.BroadcastsInDim S15 (![] : Fin 0 → Fin S15.rank)

variable [Facts]

def fn_part1 {F : FTy → Type} [FloatOps F] (main_arg2 : FVec F S16 .f32) (main_arg3 : FVec F S15 .f32) (main_v13 : IVec S_ 1) (main_v16 : IVec S15 1) (main_c_4 : IVec S_ 1) : IVec S_ 1 :=
  let main_v17 : IVec S_ 1 := (fun x v => Host.reduce IntOp.andi x v reducesTo_S15_S_d0 h_S_) main_v16 main_c_4
  let main_v18 : FVec F S15 .f32 := (extractStridedSlice S15 ![0] · slices_S16_S15_0) main_arg2
  let main_v19 : FVec F S15 .f32 := (extractStridedSlice S15 ![1] · slices_S16_S15_1) main_arg2
  let main_v20 : FVec F S15 .f32 := addf main_v18 main_v19
  let main_cst_5 : FVec F S_ .f32 := constant S_ .f32 0x3F000000#32
  let main_v21 : FVec F S15 .f32 := broadcastInDim S15 ![] bcast_S_S15 main_cst_5
  let main_v22 : FVec F S15 .f32 := mulf main_v21 main_v20
  let main_v23 : IVec S15 1 := cmpf .oeq main_arg3 main_v22
  let main_c_6 : IVec S_ 1 := constantI S_ 1 1#1
  let main_v24 : IVec S_ 1 := (fun x v => Host.reduce IntOp.andi x v reducesTo_S15_S_d0 h_S_) main_v23 main_c_6
  let main_v25 : IVec S_ 1 := andi main_v13 main_v17
  let main_v26 : IVec S_ 1 := andi main_v25 main_v24
  main_v26

def fn {F : FTy → Type} [FloatOps F] (main_arg0 : FVec F S65536x1024 .f32) (main_arg1 : FVec F S1024 .f32) (main_arg2 : FVec F S16 .f32) (main_arg3 : FVec F S15 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S15 .f32 := (extractStridedSlice S15 ![0] · slices_S16_S15_0) main_arg2
  let main_v15 : FVec F S15 .f32 := (extractStridedSlice S15 ![1] · slices_S16_S15_1) main_arg2
  let main_v16 : IVec S15 1 := cmpf .ole main_v14 main_v15
  let main_c_4 : IVec S_ 1 := constantI S_ 1 1#1
  fn_part1 (F := F) main_arg2 main_arg3 main_v13 main_v16 main_c_4
-- ==== Kernel.lean ====
abbrev S65536x1024 : Shape := ⟨2, ![65536, 1024]⟩
abbrev S1024 : Shape := ⟨1, ![1024]⟩
abbrev S16 : Shape := ⟨1, ![16]⟩
abbrev S15 : Shape := ⟨1, ![15]⟩
abbrev S128x128 : Shape := ⟨2, ![128, 128]⟩
abbrev S1x1024 : Shape := ⟨2, ![1, 1024]⟩
abbrev S1024x1024 : Shape := ⟨2, ![1024, 1024]⟩
abbrev S512x1024 : Shape := ⟨2, ![512, 1024]⟩
abbrev S512x128 : Shape := ⟨2, ![512, 128]⟩
abbrev S1 : Shape := ⟨1, ![1]⟩

abbrev nBuf : Space → Nat
  | .hbm => 8
  | .vmem => 8
  | .smem => 2
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S16, .f32⟩
  | .hbm, ⟨3, _⟩ => ⟨S15, .f32⟩
  | .hbm, ⟨4, _⟩ => ⟨S128x128, .bf16⟩
  | .hbm, ⟨5, _⟩ => ⟨S1x1024, .f32⟩
  | .hbm, ⟨6, _⟩ => ⟨S65536x1024, .f32⟩
  | .hbm, ⟨7, _⟩ => ⟨S65536x1024, .i32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S128x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .i32⟩
  | .local _ .vmem, ⟨7, _⟩ => ⟨S1024x1024, .i32⟩
  | .local _ .smem, ⟨0, _⟩ => ⟨S16, .f32⟩
  | .local _ .smem, ⟨1, _⟩ => ⟨S15, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S65536x1024 : Shape := ⟨2, ![65536, 1024]⟩
abbrev S1024 : Shape := ⟨1, ![1024]⟩
abbrev S16 : Shape := ⟨1, ![16]⟩
abbrev S15 : Shape := ⟨1, ![15]⟩
abbrev S1x1024 : Shape := ⟨2, ![1, 1024]⟩
abbrev S65536x512x2x1 : Shape := ⟨4, ![65536, 512, 2, 1]⟩
abbrev S65536x512x1x1 : Shape := ⟨4, ![65536, 512, 1, 1]⟩
abbrev S65536x512x1 : Shape := ⟨3, ![65536, 512, 1]⟩
abbrev S65536x256x2x2 : Shape := ⟨4, ![65536, 256, 2, 2]⟩
abbrev S65536x256x1x2 : Shape := ⟨4, ![65536, 256, 1, 2]⟩
abbrev S65536x256x2 : Shape := ⟨3, ![65536, 256, 2]⟩
abbrev S65536x128x2x4 : Shape := ⟨4, ![65536, 128, 2, 4]⟩
abbrev S65536x128x1x4 : Shape := ⟨4, ![65536, 128, 1, 4]⟩
abbrev S65536x128x4 : Shape := ⟨3, ![65536, 128, 4]⟩
abbrev S65536x64x2x8 : Shape := ⟨4, ![65536, 64, 2, 8]⟩
abbrev S65536x64x1x8 : Shape := ⟨4, ![65536, 64, 1, 8]⟩
abbrev S65536x64x8 : Shape := ⟨3, ![65536, 64, 8]⟩
abbrev S65536x32x2x16 : Shape := ⟨4, ![65536, 32, 2, 16]⟩
abbrev S65536x32x1x16 : Shape := ⟨4, ![65536, 32, 1, 16]⟩
abbrev S65536x32x16 : Shape := ⟨3, ![65536, 32, 16]⟩
abbrev S65536x16x2x32 : Shape := ⟨4, ![65536, 16, 2, 32]⟩
abbrev S65536x16x1x32 : Shape := ⟨4, ![65536, 16, 1, 32]⟩
abbrev S65536x16x32 : Shape := ⟨3, ![65536, 16, 32]⟩
abbrev S65536x8x2x64 : Shape := ⟨4, ![65536, 8, 2, 64]⟩
abbrev S65536x8x1x64 : Shape := ⟨4, ![65536, 8, 1, 64]⟩
abbrev S65536x8x64 : Shape := ⟨3, ![65536, 8, 64]⟩
abbrev S65536x4x2x128 : Shape := ⟨4, ![65536, 4, 2, 128]⟩
abbrev S65536x4x1x128 : Shape := ⟨4, ![65536, 4, 1, 128]⟩
abbrev S65536x4x128 : Shape := ⟨3, ![65536, 4, 128]⟩
abbrev S65536x2x2x256 : Shape := ⟨4, ![65536, 2, 2, 256]⟩
abbrev S65536x2x1x256 : Shape := ⟨4, ![65536, 2, 1, 256]⟩
abbrev S65536x2x256 : Shape := ⟨3, ![65536, 2, 256]⟩
abbrev S65536x1x2x512 : Shape := ⟨4, ![65536, 1, 2, 512]⟩
abbrev S65536x1x1x512 : Shape := ⟨4, ![65536, 1, 1, 512]⟩
abbrev S65536x1x512 : Shape := ⟨3, ![65536, 1, 512]⟩
abbrev S_ : Shape := ⟨0, ![]⟩
abbrev S65536x1024x1 : Shape := ⟨3, ![65536, 1024, 1]⟩
abbrev S1x1x15 : Shape := ⟨3, ![1, 1, 15]⟩
abbrev S65536x1024x15 : Shape := ⟨3, ![65536, 1024, 15]⟩

abbrev nBuf : Space → Nat
  | .hbm => 235
  | .vmem => 0
  | .smem => 0
  | _ => 0

abbrev hbmTy0_0 (i : Nat) : BufTy := match i % 128 with
  | 0 => ⟨S65536x1024, .f32⟩
  | 1 => ⟨S1024, .f32⟩
  | 2 => ⟨S16, .f32⟩
  | 3 => ⟨S15, .f32⟩
  | 4 => ⟨S1x1024, .f32⟩
  | 5 => ⟨S65536x1024, .f32⟩
  | 6 => ⟨S65536x1024, .f32⟩
  | 7 => ⟨S65536x512x2x1, .f32⟩
  | 8 => ⟨S65536x512x1x1, .f32⟩
  | 9 => ⟨S65536x512x1, .f32⟩
  | 10 => ⟨S65536x512x1x1, .f32⟩
  | 11 => ⟨S65536x512x1, .f32⟩
  | 12 => ⟨S65536x512x1, .f32⟩
  | 13 => ⟨S65536x512x1, .f32⟩
  | 14 => ⟨S65536x512x1x1, .f32⟩
  | 15 => ⟨S65536x512x1x1, .f32⟩
  | 16 => ⟨S65536x512x2x1, .f32⟩
  | 17 => ⟨S65536x256x2x2, .f32⟩
  | 18 => ⟨S65536x256x1x2, .f32⟩
  | 19 => ⟨S65536x256x2, .f32⟩
  | 20 => ⟨S65536x256x1x2, .f32⟩
  | 21 => ⟨S65536x256x2, .f32⟩
  | 22 => ⟨S65536x256x2, .f32⟩
  | 23 => ⟨S65536x256x2, .f32⟩
  | 24 => ⟨S65536x256x1x2, .f32⟩
  | 25 => ⟨S65536x256x1x2, .f32⟩
  | 26 => ⟨S65536x256x2x2, .f32⟩
  | 27 => ⟨S65536x128x2x4, .f32⟩
  | 28 => ⟨S65536x128x1x4, .f32⟩
  | 29 => ⟨S65536x128x4, .f32⟩
  | 30 => ⟨S65536x128x1x4, .f32⟩
  | 31 => ⟨S65536x128x4, .f32⟩
  | 32 => ⟨S65536x128x4, .f32⟩
  | 33 => ⟨S65536x128x4, .f32⟩
  | 34 => ⟨S65536x128x1x4, .f32⟩
  | 35 => ⟨S65536x128x1x4, .f32⟩
  | 36 => ⟨S65536x128x2x4, .f32⟩
  | 37 => ⟨S65536x64x2x8, .f32⟩
  | 38 => ⟨S65536x64x1x8, .f32⟩
  | 39 => ⟨S65536x64x8, .f32⟩
  | 40 => ⟨S65536x64x1x8, .f32⟩
  | 41 => ⟨S65536x64x8, .f32⟩
  | 42 => ⟨S65536x64x8, .f32⟩
  | 43 => ⟨S65536x64x8, .f32⟩
  | 44 => ⟨S65536x64x1x8, .f32⟩
  | 45 => ⟨S65536x64x1x8, .f32⟩
  | 46 => ⟨S65536x64x2x8, .f32⟩
  | 47 => ⟨S65536x32x2x16, .f32⟩
  | 48 => ⟨S65536x32x1x16, .f32⟩
  | 49 => ⟨S65536x32x16, .f32⟩
  | 50 => ⟨S65536x32x1x16, .f32⟩
  | 51 => ⟨S65536x32x16, .f32⟩
  | 52 => ⟨S65536x32x16, .f32⟩
  | 53 => ⟨S65536x32x16, .f32⟩
  | 54 => ⟨S65536x32x1x16, .f32⟩
  | 55 => ⟨S65536x32x1x16, .f32⟩
  | 56 => ⟨S65536x32x2x16, .f32⟩
  | 57 => ⟨S65536x16x2x32, .f32⟩
  | 58 => ⟨S65536x16x1x32, .f32⟩
  | 59 => ⟨S65536x16x32, .f32⟩
  | 60 => ⟨S65536x16x1x32, .f32⟩
  | 61 => ⟨S65536x16x32, .f32⟩
  | 62 => ⟨S65536x16x32, .f32⟩
  | 63 => ⟨S65536x16x32, .f32⟩
  | 64 => ⟨S65536x16x1x32, .f32⟩
  | 65 => ⟨S65536x16x1x32, .f32⟩
  | 66 => ⟨S65536x16x2x32, .f32⟩
  | 67 => ⟨S65536x8x2x64, .f32⟩
  | 68 => ⟨S65536x8x1x64, .f32⟩
  | 69 => ⟨S65536x8x64, .f32⟩
  | 70 => ⟨S65536x8x1x64, .f32⟩
  | 71 => ⟨S65536x8x64, .f32⟩
  | 72 => ⟨S65536x8x64, .f32⟩
  | 73 => ⟨S65536x8x64, .f32⟩
  | 74 => ⟨S65536x8x1x64, .f32⟩
  | 75 => ⟨S65536x8x1x64, .f32⟩
  | 76 => ⟨S65536x8x2x64, .f32⟩
  | 77 => ⟨S65536x4x2x128, .f32⟩
  | 78 => ⟨S65536x4x1x128, .f32⟩
  | 79 => ⟨S65536x4x128, .f32⟩
  | 80 => ⟨S65536x4x1x128, .f32⟩
  | 81 => ⟨S65536x4x128, .f32⟩
  | 82 => ⟨S65536x4x128, .f32⟩
  | 83 => ⟨S65536x4x128, .f32⟩
  | 84 => ⟨S65536x4x1x128, .f32⟩
  | 85 => ⟨S65536x4x1x128, .f32⟩
  | 86 => ⟨S65536x4x2x128, .f32⟩
  | 87 => ⟨S65536x2x2x256, .f32⟩
  | 88 => ⟨S65536x2x1x256, .f32⟩
  | 89 => ⟨S65536x2x256, .f32⟩
  | 90 => ⟨S65536x2x1x256, .f32⟩
  | 91 => ⟨S65536x2x256, .f32⟩
  | 92 => ⟨S65536x2x256, .f32⟩
  | 93 => ⟨S65536x2x256, .f32⟩
  | 94 => ⟨S65536x2x1x256, .f32⟩
  | 95 => ⟨S65536x2x1x256, .f32⟩
  | 96 => ⟨S65536x2x2x256, .f32⟩
  | 97 => ⟨S65536x1x2x512, .f32⟩
  | 98 => ⟨S65536x1x1x512, .f32⟩
  | 99 => ⟨S65536x1x512, .f32⟩
  | 100 => ⟨S65536x1x1x512, .f32⟩
  | 101 => ⟨S65536x1x512, .f32⟩
  | 102 => ⟨S65536x1x512, .f32⟩
  | 103 => ⟨S65536x1x512, .f32⟩
  | 104 => ⟨S65536x1x1x512, .f32⟩
  | 105 => ⟨S65536x1x1x512, .f32⟩
  | 106 => ⟨S65536x1x2x512, .f32⟩
  | 107 => ⟨S65536x1024, .f32⟩
  | 108 => ⟨S_, .f32⟩
  | 109 => ⟨S65536x1024, .f32⟩
  | 110 => ⟨S65536x1024, .f32⟩
  | 111 => ⟨S65536x1024x1, .f32⟩
  | 112 => ⟨S1x1x15, .f32⟩
  | 113 => ⟨S65536x1024x15, .f32⟩
  | 114 => ⟨S65536x1024x15, .f32⟩
  | 115 => ⟨S65536x1024x15, .i1⟩
  | 116 => ⟨S65536x1024x15, .i32⟩
  | 117 => ⟨S_, .i32⟩
  | 118 => ⟨S65536x1024, .i32⟩
  | 119 => ⟨S_, .i32⟩
  | 120 => ⟨S65536x1024, .i32⟩
  | 121 => ⟨S65536x1024, .i1⟩
  | 122 => ⟨S_, .i32⟩
  | 123 => ⟨S65536x1024, .i32⟩
  | 124 => ⟨S65536x1024, .i32⟩
  | 125 => ⟨S65536x1024, .i32⟩
  | 126 => ⟨S65536x1024x1, .i32⟩
  | 127 => ⟨S65536x1024, .f32⟩
  | _ => ⟨S65536x1024, .f32⟩

abbrev hbmTy0_1 (i : Nat) : BufTy := match i % 128 with
  | 0 => ⟨S65536x512x2x1, .f32⟩
  | 1 => ⟨S65536x512x1x1, .f32⟩
  | 2 => ⟨S65536x512x1, .f32⟩
  | 3 => ⟨S65536x512x1x1, .f32⟩
  | 4 => ⟨S65536x512x1, .f32⟩
  | 5 => ⟨S65536x512x1, .f32⟩
  | 6 => ⟨S65536x512x1, .f32⟩
  | 7 => ⟨S65536x512x1x1, .f32⟩
  | 8 => ⟨S65536x512x1x1, .f32⟩
  | 9 => ⟨S65536x512x2x1, .f32⟩
  | 10 => ⟨S65536x256x2x2, .f32⟩
  | 11 => ⟨S65536x256x1x2, .f32⟩
  | 12 => ⟨S65536x256x2, .f32⟩
  | 13 => ⟨S65536x256x1x2, .f32⟩
  | 14 => ⟨S65536x256x2, .f32⟩
  | 15 => ⟨S65536x256x2, .f32⟩
  | 16 => ⟨S65536x256x2, .f32⟩
  | 17 => ⟨S65536x256x1x2, .f32⟩
  | 18 => ⟨S65536x256x1x2, .f32⟩
  | 19 => ⟨S65536x256x2x2, .f32⟩
  | 20 => ⟨S65536x128x2x4, .f32⟩
  | 21 => ⟨S65536x128x1x4, .f32⟩
  | 22 => ⟨S65536x128x4, .f32⟩
  | 23 => ⟨S65536x128x1x4, .f32⟩
  | 24 => ⟨S65536x128x4, .f32⟩
  | 25 => ⟨S65536x128x4, .f32⟩
  | 26 => ⟨S65536x128x4, .f32⟩
  | 27 => ⟨S65536x128x1x4, .f32⟩
  | 28 => ⟨S65536x128x1x4, .f32⟩
  | 29 => ⟨S65536x128x2x4, .f32⟩
  | 30 => ⟨S65536x64x2x8, .f32⟩
  | 31 => ⟨S65536x64x1x8, .f32⟩
  | 32 => ⟨S65536x64x8, .f32⟩
  | 33 => ⟨S65536x64x1x8, .f32⟩
  | 34 => ⟨S65536x64x8, .f32⟩
  | 35 => ⟨S65536x64x8, .f32⟩
  | 36 => ⟨S65536x64x8, .f32⟩
  | 37 => ⟨S65536x64x1x8, .f32⟩
  | 38 => ⟨S65536x64x1x8, .f32⟩
  | 39 => ⟨S65536x64x2x8, .f32⟩
  | 40 => ⟨S65536x32x2x16, .f32⟩
  | 41 => ⟨S65536x32x1x16, .f32⟩
  | 42 => ⟨S65536x32x16, .f32⟩
  | 43 => ⟨S65536x32x1x16, .f32⟩
  | 44 => ⟨S65536x32x16, .f32⟩
  | 45 => ⟨S65536x32x16, .f32⟩
  | 46 => ⟨S65536x32x16, .f32⟩
  | 47 => ⟨S65536x32x1x16, .f32⟩
  | 48 => ⟨S65536x32x1x16, .f32⟩
  | 49 => ⟨S65536x32x2x16, .f32⟩
  | 50 => ⟨S65536x16x2x32, .f32⟩
  | 51 => ⟨S65536x16x1x32, .f32⟩
  | 52 => ⟨S65536x16x32, .f32⟩
  | 53 => ⟨S65536x16x1x32, .f32⟩
  | 54 => ⟨S65536x16x32, .f32⟩
  | 55 => ⟨S65536x16x32, .f32⟩
  | 56 => ⟨S65536x16x32, .f32⟩
  | 57 => ⟨S65536x16x1x32, .f32⟩
  | 58 => ⟨S65536x16x1x32, .f32⟩
  | 59 => ⟨S65536x16x2x32, .f32⟩
  | 60 => ⟨S65536x8x2x64, .f32⟩
  | 61 => ⟨S65536x8x1x64, .f32⟩
  | 62 => ⟨S65536x8x64, .f32⟩
  | 63 => ⟨S65536x8x1x64, .f32⟩
  | 64 => ⟨S65536x8x64, .f32⟩
  | 65 => ⟨S65536x8x64, .f32⟩
  | 66 => ⟨S65536x8x64, .f32⟩
  | 67 => ⟨S65536x8x1x64, .f32⟩
  | 68 => ⟨S65536x8x1x64, .f32⟩
  | 69 => ⟨S65536x8x2x64, .f32⟩
  | 70 => ⟨S65536x4x2x128, .f32⟩
  | 71 => ⟨S65536x4x1x128, .f32⟩
  | 72 => ⟨S65536x4x128, .f32⟩
  | 73 => ⟨S65536x4x1x128, .f32⟩
  | 74 => ⟨S65536x4x128, .f32⟩
  | 75 => ⟨S65536x4x128, .f32⟩
  | 76 => ⟨S65536x4x128, .f32⟩
  | 77 => ⟨S65536x4x1x128, .f32⟩
  | 78 => ⟨S65536x4x1x128, .f32⟩
  | 79 => ⟨S65536x4x2x128, .f32⟩
  | 80 => ⟨S65536x2x2x256, .f32⟩
  | 81 => ⟨S65536x2x1x256, .f32⟩
  | 82 => ⟨S65536x2x256, .f32⟩
  | 83 => ⟨S65536x2x1x256, .f32⟩
  | 84 => ⟨S65536x2x256, .f32⟩
  | 85 => ⟨S65536x2x256, .f32⟩
  | 86 => ⟨S65536x2x256, .f32⟩
  | 87 => ⟨S65536x2x1x256, .f32⟩
  | 88 => ⟨S65536x2x1x256, .f32⟩
  | 89 => ⟨S65536x2x2x256, .f32⟩
  | 90 => ⟨S65536x1x2x512, .f32⟩
  | 91 => ⟨S65536x1x1x512, .f32⟩
  | 92 => ⟨S65536x1x512, .f32⟩
  | 93 => ⟨S65536x1x1x512, .f32⟩
  | 94 => ⟨S65536x1x512, .f32⟩
  | 95 => ⟨S65536x1x512, .f32⟩
  | 96 => ⟨S65536x1x512, .f32⟩
  | 97 => ⟨S65536x1x1x512, .f32⟩
  | 98 => ⟨S65536x1x1x512, .f32⟩
  | 99 => ⟨S65536x1x2x512, .f32⟩
  | 100 => ⟨S65536x1024, .f32⟩
  | 101 => ⟨S_, .f32⟩
  | 102 => ⟨S65536x1024, .f32⟩
  | 103 => ⟨S65536x1024, .f32⟩
  | 104 => ⟨S1x1024, .f32⟩
  | 105 => ⟨S65536x1024, .f32⟩
  | 106 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_cst : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_c : Ref sig .tc := ⟨.hbm, 117, rfl⟩
abbrev main_v112 : Ref sig .tc := ⟨.hbm, 118, rfl⟩
abbrev main_c_0 : Ref sig .tc := ⟨.hbm, 119, rfl⟩
abbrev main_v113 : Ref sig .tc := ⟨.hbm, 120, rfl⟩
abbrev main_v114 : Ref sig .tc := ⟨.hbm, 121, rfl⟩
abbrev main_c_1 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_cst_2 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩

abbrev nD : Nat := 1
abbrev τ : Topo := Topo.v7x

variable {F : FTy → Type} [FloatOps F]
-- ==== Proof.Half.lean ====
/- What the kernel computes from 512 rows of its block, as one function of those rows, the sign row, the matrix and the
   two tables. The kernel writes it twice, for the upper and the lower rows. -/
module

public import proofs.«01_k».proof.Proof.Gen.KernelIdeal
public import Idealize.ShloMosaic.Lib.Pointwise

@[expose] public section

set_option maxRecDepth 16384

noncomputable section

namespace Cert.Half

open Idealize.ShloMosaic Idealize.ShloMosaic.TcCoe Idealize.SL.Sem
open Cert.KernelIdeal Cert.KernelIdeal.Gen

variable {F : FTy → Type} [FloatOps F]

/-- The eight chunks of 128 columns. -/
def split {φ : FTy} (v : FVec F S512x1024 φ) : Fin 8 → FVec F S512x128 φ
  | 0 => extractStridedSlice S512x128 ![0, 0] v slices_S512x1024_o0_0_S512x128
  | 1 => extractStridedSlice S512x128 ![0, 128] v slices_S512x1024_o0_128_S512x128
  | 2 => extractStridedSlice S512x128 ![0, 256] v slices_S512x1024_o0_256_S512x128
  | 3 => extractStridedSlice S512x128 ![0, 384] v slices_S512x1024_o0_384_S512x128
  | 4 => extractStridedSlice S512x128 ![0, 512] v slices_S512x1024_o0_512_S512x128
  | 5 => extractStridedSlice S512x128 ![0, 640] v slices_S512x1024_o0_640_S512x128
  | 6 => extractStridedSlice S512x128 ![0, 768] v slices_S512x1024_o0_768_S512x128
  | 7 => extractStridedSlice S512x128 ![0, 896] v slices_S512x1024_o0_896_S512x128

/-- Eight chunks side by side. -/
def join (p : Fin 8 → FVec F S512x128 .f32) : FVec F S512x1024 .f32 :=
  concatenate S512x1024 1 [⟨S512x128, p 0⟩, ⟨S512x128, p 1⟩, ⟨S512x128, p 2⟩, ⟨S512x128, p 3⟩, ⟨S512x128, p 4⟩,
    ⟨S512x128, p 5⟩, ⟨S512x128, p 6⟩, ⟨S512x128, p 7⟩]
    concatenates_S512x128_S512x128_S512x128_S512x128_S512x128_S512x128_S512x128_S512x128_S512x1024_d1

/-- Three butterfly stages across the chunks. -/
def across (p : Fin 8 → FVec F S512x128 .f32) : Fin 8 → FVec F S512x128 .f32
  | 0 => addf (addf (addf (p 0) (p 4)) (addf (p 2) (p 6))) (addf (addf (p 1) (p 5)) (addf (p 3) (p 7)))
  | 1 => subf (addf (addf (p 0) (p 4)) (addf (p 2) (p 6))) (addf (addf (p 1) (p 5)) (addf (p 3) (p 7)))
  | 2 => addf (subf (addf (p 0) (p 4)) (addf (p 2) (p 6))) (subf (addf (p 1) (p 5)) (addf (p 3) (p 7)))
  | 3 => subf (subf (addf (p 0) (p 4)) (addf (p 2) (p 6))) (subf (addf (p 1) (p 5)) (addf (p 3) (p 7)))
  | 4 => addf (addf (subf (p 0) (p 4)) (subf (p 2) (p 6))) (addf (subf (p 1) (p 5)) (subf (p 3) (p 7)))
  | 5 => subf (addf (subf (p 0) (p 4)) (subf (p 2) (p 6))) (addf (subf (p 1) (p 5)) (subf (p 3) (p 7)))
  | 6 => addf (subf (subf (p 0) (p 4)) (subf (p 2) (p 6))) (subf (subf (p 1) (p 5)) (subf (p 3) (p 7)))
  | 7 => subf (subf (subf (p 0) (p 4)) (subf (p 2) (p 6))) (subf (subf (p 1) (p 5)) (subf (p 3) (p 7)))

/-- The product of one chunk with the matrix. -/
def dot (h : FVec F S128x128 .bf16) (c : FVec F S512x128 .bf16) : FVec F S512x128 .f32 :=
  matmul dot_S512x128_S128x128_S512x128_1_0_0_1_n_n none c h (constant S512x128 .f32 0x00000000#32)

/-- The product of one chunk with the matrix, taken of its rounding and of what the rounding left, and added. -/
def dot2 (h : FVec F S128x128 .bf16) (c : FVec F S512x128 .f32) : FVec F S512x128 .f32 :=
  addf (dot h (truncf .bf16 c bitsLt_bf16_f32))
    (dot h (truncf .bf16 (subf c (extf .f32 (truncf .bf16 c bitsLt_bf16_f32) bitsLt_bf16_f32)) bitsLt_bf16_f32))

/-- The sign row, repeated down the rows. -/
def signs (s : FVec F S1x1024 .f32) : FVec F S512x1024 .f32 :=
  broadcastTo S512x1024 (shapeCast S1x1024 s shapeCasts_S1x1024_S1x1024) broadcasts_S1x1024_S512x1024

/-- The rotated rows. -/
def rotated (h : FVec F S128x128 .bf16) (s : FVec F S1x1024 .f32) (x : FVec F S512x1024 .f32) : FVec F S512x1024 .f32 :=
  join fun k => dot2 h (across (split (mulf x (signs s))) k)

/-- The bits of the index, highest first: each compares with the boundary the ones before it lead to. -/
def bit3 (b : Fin 15 → F .f32) (y : FVec F S512x1024 .f32) : IVec S512x1024 1 :=
  cmpf .ogt y (broadcast S512x1024 (b 7))

/-- The second bit. -/
def bit2 (b : Fin 15 → F .f32) (y : FVec F S512x1024 .f32) : IVec S512x1024 1 :=
  cmpf .ogt y (select (bit3 b y) (broadcast S512x1024 (b 11)) (broadcast S512x1024 (b 3)))

/-- The third bit. -/
def bit1 (b : Fin 15 → F .f32) (y : FVec F S512x1024 .f32) : IVec S512x1024 1 :=
  cmpf .ogt y (select (bit3 b y)
    (select (bit2 b y) (broadcast S512x1024 (b 13)) (broadcast S512x1024 (b 9)))
    (select (bit2 b y) (broadcast S512x1024 (b 5)) (broadcast S512x1024 (b 1))))

/-- A choice among eight values by the three upper bits. -/
def choose (b : Fin 15 → F .f32) (y : FVec F S512x1024 .f32) (w : Fin 8 → F .f32) : FVec F S512x1024 .f32 :=
  select (bit3 b y)
    (select (bit2 b y)
      (select (bit1 b y) (broadcast S512x1024 (w 7)) (broadcast S512x1024 (w 6)))
      (select (bit1 b y) (broadcast S512x1024 (w 5)) (broadcast S512x1024 (w 4))))
    (select (bit2 b y)
      (select (bit1 b y) (broadcast S512x1024 (w 3)) (broadcast S512x1024 (w 2)))
      (select (bit1 b y) (broadcast S512x1024 (w 1)) (broadcast S512x1024 (w 0))))

/-- The last boundary on the way. -/
def last (b : Fin 15 → F .f32) (y : FVec F S512x1024 .f32) : FVec F S512x1024 .f32 :=
  choose b y fun k => b ⟨2 * k.val, by omega⟩

/-- The last bit. -/
def bit0 (b : Fin 15 → F .f32) (y : FVec F S512x1024 .f32) : IVec S512x1024 1 := cmpf .ogt y (last b y)

/-- The index: the bits as a number. -/
def number (b : Fin 15 → F .f32) (y : FVec F S512x1024 .f32) : IVec S512x1024 32 :=
  addi
    (addi (select (bit3 b y) (broadcast S512x1024 8#32) (broadcast S512x1024 0#32))
      (select (bit2 b y) (broadcast S512x1024 4#32) (broadcast S512x1024 0#32)))
    (addi (select (bit1 b y) (broadcast S512x1024 2#32) (broadcast S512x1024 0#32))
      (select (bit0 b y) (broadcast S512x1024 1#32) (broadcast S512x1024 0#32)))

/-- Half the gap between the two centroids left to choose from. -/
def gap (c : Fin 16 → F .f32) (b : Fin 15 → F .f32) (y : FVec F S512x1024 .f32) : FVec F S512x1024 .f32 :=
  choose b y fun k => Scalar.mulf (Scalar.subf (c ⟨2 * k.val + 1, by omega⟩) (c ⟨2 * k.val, by omega⟩))
    (Scalar.ofBits .f32 0x3F000000#32)

/-- The quantised rows: the last boundary, moved by half a gap up or down. -/
def quantised (c : Fin 16 → F .f32) (b : Fin 15 → F .f32) (y : FVec F S512x1024 .f32) : FVec F S512x1024 .f32 :=
  addf (last b y) (select (bit0 b y) (gap c b y)
    (subf (broadcast S512x1024 (Scalar.ofBits .f32 0x00000000#32)) (gap c b y)))

/-- The rows rotated back. -/
def restored (h : FVec F S128x128 .bf16) (s : FVec F S1x1024 .f32) (q : FVec F S512x1024 .bf16) : FVec F S512x1024 .f32 :=
  mulf (join (across (split (join fun k => dot h (split q k))))) (signs s)

/-- One entry of the centroids. -/
def entry16 {α : Type} (A : S16.Idx → α) (k : Fin 16) : α :=
  A ((Rect.unit (s := S16) ![k.val] ![1] (Rect.inb₁ (by show k.val + 1 ≤ 16; omega))).idx (Shape.Idx.first (by show 0 < S1.numel; decide)))

/-- One entry of the boundaries. -/
def entry15 {α : Type} (A : S15.Idx → α) (k : Fin 15) : α :=
  A ((Rect.unit (s := S15) ![k.val] ![1] (Rect.inb₁ (by show k.val + 1 ≤ 15; omega))).idx (Shape.Idx.first (by show 0 < S1.numel; decide)))

end Cert.Half

end
-- ==== Proof.Pieces.lean ====
/- The two halves of the kernel's body compute the same function of their rows. The kernel's values are met under the
   names the program's parts give them. -/
module

public import proofs.«01_k».proof.Proof.Gen.KernelIdeal.Skeleton
public import proofs.«01_k».proof.Proof.Half

@[expose] public section

set_option maxRecDepth 16384

noncomputable section

namespace Cert.Half

open Idealize.ShloMosaic Idealize.ShloMosaic.TcCoe Idealize.SL.Sem
open Cert.KernelIdeal Cert.KernelIdeal.Gen

variable {F : FTy → Type} [FloatOps F]

/-- The upper rows, rotated. -/
theorem upper_rotated (h : FVec F S128x128 .bf16) (s : FVec F S1x1024 .f32) (x : FVec F S512x1024 .f32) :
    k0_pay39 h (k0_pay29 s x) (k0_pay30 s x) (k0_pay31 s x) (k0_pay32 s x) (k0_pay33 s x) (k0_pay34 s x) (k0_pay35 h s x) (k0_pay37 s x)
      (k0_pay38 h s x) = rotated h s x := rfl

/-- The lower rows, multiplied by the signs and cut into chunks. -/
theorem lower_split (s : FVec F S1x1024 .f32) (x : FVec F S512x1024 .f32) :
    (k0_pay63 (k0_pay2 s) x = split (mulf x (signs s)) 0 ∧
     k0_pay64 (k0_pay2 s) x = split (mulf x (signs s)) 1 ∧
     k0_pay65 (k0_pay2 s) x = split (mulf x (signs s)) 2 ∧
     k0_pay66 (k0_pay2 s) x = split (mulf x (signs s)) 3 ∧
     k0_pay67 (k0_pay2 s) x = split (mulf x (signs s)) 4 ∧
     k0_pay68 (k0_pay2 s) x = split (mulf x (signs s)) 5 ∧
     k0_pay69 (k0_pay2 s) x = split (mulf x (signs s)) 6 ∧
     k0_pay70 (k0_pay2 s) x = split (mulf x (signs s)) 7 ∧
     k0_pay71 (k0_pay2 s) x = addf (split (mulf x (signs s)) 0) (split (mulf x (signs s)) 4)) :=
  ⟨rfl, rfl, rfl, rfl, rfl, rfl, rfl, rfl, rfl⟩

/-- The lower rows' chunks, rotated. -/
theorem lower_dots (h : FVec F S128x128 .bf16) (p : Fin 8 → FVec F S512x128 .f32) :
    k0_pay96 h
      (k0_pay87 (p 0) (p 1) (p 2) (p 3) (p 4) (p 5) (p 6) (p 7))
      (k0_pay88 (p 0) (p 1) (p 2) (p 3) (p 4) (p 5) (p 6) (p 7))
      (k0_pay89 (p 0) (p 1) (p 2) (p 3) (p 4) (p 5) (p 6) (p 7))
      (k0_pay90 (p 0) (p 1) (p 2) (p 3) (p 4) (p 5) (p 6) (p 7))
      (k0_pay91 h (p 1) (p 2) (p 3) (p 5) (p 6) (p 7) (addf (p 0) (p 4)))
      (k0_pay92 h (p 1) (p 2) (p 3) (p 5) (p 6) (p 7) (addf (p 0) (p 4)))
      (k0_pay93 h (p 1) (p 2) (p 3) (p 5) (p 6) (p 7) (addf (p 0) (p 4)))
      (k0_pay94 h (p 1) (p 2) (p 3) (p 5) (p 6) (p 7) (addf (p 0) (p 4)))
      (k0_pay95 (p 0) (p 1) (p 2) (p 3) (p 4) (p 5) (p 6) (p 7))
      = join fun k => dot2 h (across p k) := rfl

/-- The lower rows, rotated. -/
theorem lower_rotated (h : FVec F S128x128 .bf16) (s : FVec F S1x1024 .f32) (x : FVec F S512x1024 .f32) :
    k0_pay96 h
      (k0_pay87 (k0_pay63 (k0_pay2 s) x) (k0_pay64 (k0_pay2 s) x) (k0_pay65 (k0_pay2 s) x) (k0_pay66 (k0_pay2 s) x)
        (k0_pay67 (k0_pay2 s) x) (k0_pay68 (k0_pay2 s) x) (k0_pay69 (k0_pay2 s) x) (k0_pay70 (k0_pay2 s) x))
      (k0_pay88 (k0_pay63 (k0_pay2 s) x) (k0_pay64 (k0_pay2 s) x) (k0_pay65 (k0_pay2 s) x) (k0_pay66 (k0_pay2 s) x)
        (k0_pay67 (k0_pay2 s) x) (k0_pay68 (k0_pay2 s) x) (k0_pay69 (k0_pay2 s) x) (k0_pay70 (k0_pay2 s) x))
      (k0_pay89 (k0_pay63 (k0_pay2 s) x) (k0_pay64 (k0_pay2 s) x) (k0_pay65 (k0_pay2 s) x) (k0_pay66 (k0_pay2 s) x)
        (k0_pay67 (k0_pay2 s) x) (k0_pay68 (k0_pay2 s) x) (k0_pay69 (k0_pay2 s) x) (k0_pay70 (k0_pay2 s) x))
      (k0_pay90 (k0_pay63 (k0_pay2 s) x) (k0_pay64 (k0_pay2 s) x) (k0_pay65 (k0_pay2 s) x) (k0_pay66 (k0_pay2 s) x)
        (k0_pay67 (k0_pay2 s) x) (k0_pay68 (k0_pay2 s) x) (k0_pay69 (k0_pay2 s) x) (k0_pay70 (k0_pay2 s) x))
      (k0_pay91 h (k0_pay64 (k0_pay2 s) x) (k0_pay65 (k0_pay2 s) x) (k0_pay66 (k0_pay2 s) x) (k0_pay68 (k0_pay2 s) x)
        (k0_pay69 (k0_pay2 s) x) (k0_pay70 (k0_pay2 s) x) (k0_pay71 (k0_pay2 s) x))
      (k0_pay92 h (k0_pay64 (k0_pay2 s) x) (k0_pay65 (k0_pay2 s) x) (k0_pay66 (k0_pay2 s) x) (k0_pay68 (k0_pay2 s) x)
        (k0_pay69 (k0_pay2 s) x) (k0_pay70 (k0_pay2 s) x) (k0_pay71 (k0_pay2 s) x))
      (k0_pay93 h (k0_pay64 (k0_pay2 s) x) (k0_pay65 (k0_pay2 s) x) (k0_pay66 (k0_pay2 s) x) (k0_pay68 (k0_pay2 s) x)
        (k0_pay69 (k0_pay2 s) x) (k0_pay70 (k0_pay2 s) x) (k0_pay71 (k0_pay2 s) x))
      (k0_pay94 h (k0_pay64 (k0_pay2 s) x) (k0_pay65 (k0_pay2 s) x) (k0_pay66 (k0_pay2 s) x) (k0_pay68 (k0_pay2 s) x)
        (k0_pay69 (k0_pay2 s) x) (k0_pay70 (k0_pay2 s) x) (k0_pay71 (k0_pay2 s) x))
      (k0_pay95 (k0_pay63 (k0_pay2 s) x) (k0_pay64 (k0_pay2 s) x) (k0_pay65 (k0_pay2 s) x) (k0_pay66 (k0_pay2 s) x)
        (k0_pay67 (k0_pay2 s) x) (k0_pay68 (k0_pay2 s) x) (k0_pay69 (k0_pay2 s) x) (k0_pay70 (k0_pay2 s) x))
      = rotated h s x := by
  obtain ⟨e0, e1, e2, e3, e4, e5, e6, e7, e8⟩ := lower_split s x
  rw [e0, e1, e2, e3, e4, e5, e6, e7, e8]
  exact lower_dots h _

/-- The bits of the upper rows. -/
theorem upper_bits (b : Fin 15 → F .f32) (y : FVec F S512x1024 .f32) :
    k0_pay40 y (b 7) = bit3 b y ∧ k0_pay41 y (b 3) (b 7) (b 11) = bit2 b y ∧
      k0_pay42 y (b 1) (b 3) (b 5) (b 7) (b 9) (b 11) (b 13) = bit1 b y ∧
      k0_pay43 y (b 0) (b 1) (b 2) (b 3) (b 4) (b 5) (b 6) (b 7) (b 8) (b 9) (b 10) (b 11) (b 12) (b 13) (b 14)
        = last b y ∧
      k0_pay44 y (b 0) (b 1) (b 2) (b 3) (b 4) (b 5) (b 6) (b 7) (b 8) (b 9) (b 10) (b 11) (b 12) (b 13) (b 14)
        = bit0 b y := ⟨rfl, rfl, rfl, rfl, rfl⟩

/-- The index of the upper rows. -/
theorem upper_number (b : Fin 15 → F .f32) (y : FVec F S512x1024 .f32) :
    k0_pay51 (k0_pay40 y (b 7)) (k0_pay41 y (b 3) (b 7) (b 11)) (k0_pay42 y (b 1) (b 3) (b 5) (b 7) (b 9) (b 11) (b 13))
      (k0_pay44 y (b 0) (b 1) (b 2) (b 3) (b 4) (b 5) (b 6) (b 7) (b 8) (b 9) (b 10) (b 11) (b 12) (b 13) (b 14))
      = number b y := by
  obtain ⟨e3, e2, e1, _, e0⟩ := upper_bits b y
  rw [e3, e2, e1, e0]
  rfl

/-- The quantised upper rows. -/
theorem upper_quantised (c : Fin 16 → F .f32) (b : Fin 15 → F .f32) (y : FVec F S512x1024 .f32) :
    k0_pay52 (k0_pay40 y (b 7)) (k0_pay41 y (b 3) (b 7) (b 11)) (k0_pay42 y (b 1) (b 3) (b 5) (b 7) (b 9) (b 11) (b 13))
      (k0_pay43 y (b 0) (b 1) (b 2) (b 3) (b 4) (b 5) (b 6) (b 7) (b 8) (b 9) (b 10) (b 11) (b 12) (b 13) (b 14))
      (k0_pay44 y (b 0) (b 1) (b 2) (b 3) (b 4) (b 5) (b 6) (b 7) (b 8) (b 9) (b 10) (b 11) (b 12) (b 13) (b 14))
      (k0_pay45 (c 9) (c 8)) (k0_pay46 (c 11) (c 10)) (k0_pay47 (c 13) (c 12)) (k0_pay48 (c 15) (c 14))
      (k0_pay49 (k0_pay42 y (b 1) (b 3) (b 5) (b 7) (b 9) (b 11) (b 13)) (c 1) (c 0) (c 3) (c 2))
      (k0_pay50 (k0_pay42 y (b 1) (b 3) (b 5) (b 7) (b 9) (b 11) (b 13)) (c 5) (c 4) (c 7) (c 6))
      = truncf .bf16 (quantised c b y) bitsLt_bf16_f32 := by
  obtain ⟨e3, e2, e1, et, e0⟩ := upper_bits b y
  rw [e3, e2, e1, et, e0]
  rfl

/-- The bits of the lower rows. -/
theorem lower_bits (b : Fin 15 → F .f32) (y : FVec F S512x1024 .f32) :
    k0_pay97 y (b 7) = bit3 b y ∧ k0_pay98 y (b 3) (b 7) (b 11) = bit2 b y ∧
      k0_pay99 y (b 1) (b 3) (b 5) (b 7) (b 9) (b 11) (b 13) = bit1 b y ∧
      k0_pay100 y (b 0) (b 1) (b 2) (b 3) (b 4) (b 5) (b 6) (b 7) (b 8) (b 9) (b 10) (b 11) (b 12) (b 13) (b 14)
        = last b y ∧
      k0_pay101 y (b 0) (b 1) (b 2) (b 3) (b 4) (b 5) (b 6) (b 7) (b 8) (b 9) (b 10) (b 11) (b 12) (b 13) (b 14)
        = bit0 b y := ⟨rfl, rfl, rfl, rfl, rfl⟩

/-- The index of the lower rows. -/
theorem lower_number (b : Fin 15 → F .f32) (y : FVec F S512x1024 .f32) :
    k0_pay108 (k0_pay98 y (b 3) (b 7) (b 11)) (k0_pay99 y (b 1) (b 3) (b 5) (b 7) (b 9) (b 11) (b 13))
      (k0_pay101 y (b 0) (b 1) (b 2) (b 3) (b 4) (b 5) (b 6) (b 7) (b 8) (b 9) (b 10) (b 11) (b 12) (b 13) (b 14))
      (k0_pay106 (k0_pay97 y (b 7))) 0#32 k0_pay107
      = number b y := by
  obtain ⟨e3, e2, e1, _, e0⟩ := lower_bits b y
  rw [e3, e2, e1, e0]
  rfl

/-- The quantised lower rows. -/
theorem lower_quantised (c : Fin 16 → F .f32) (b : Fin 15 → F .f32) (y : FVec F S512x1024 .f32) :
    k0_pay105 (k0_pay97 y (b 7)) (k0_pay98 y (b 3) (b 7) (b 11)) (k0_pay99 y (b 1) (b 3) (b 5) (b 7) (b 9) (b 11) (b 13))
      (k0_pay100 y (b 0) (b 1) (b 2) (b 3) (b 4) (b 5) (b 6) (b 7) (b 8) (b 9) (b 10) (b 11) (b 12) (b 13) (b 14))
      (k0_pay101 y (b 0) (b 1) (b 2) (b 3) (b 4) (b 5) (b 6) (b 7) (b 8) (b 9) (b 10) (b 11) (b 12) (b 13) (b 14))
      (k0_pay102 (c 1) (c 0)) (k0_pay103 (c 3) (c 2)) (k0_pay104 (c 5) (c 4))
      (c 7) (c 6) (c 9) (c 8) (c 11) (c 10) (c 13) (c 12) (c 15) (c 14)
      = quantised c b y := by
  obtain ⟨e3, e2, e1, et, e0⟩ := lower_bits b y
  rw [e3, e2, e1, et, e0]
  rfl

/-- The upper rows, rotated back. -/
theorem upper_restored (h : FVec F S128x128 .bf16) (s : FVec F S1x1024 .f32) (m3 m2 m1 : IVec S512x1024 1)
    (t : FVec F S512x1024 .f32) (m0 : IVec S512x1024 1) (g4 g5 g6 g7 : F .f32) (ga gb : FVec F S512x1024 .f32) :
    k0_pay61 h (k0_pay2 s)
      (k0_pay53 h m3 m2 m1 t m0 g4 g5 g6 g7 ga gb)
      (k0_pay54 h m3 m2 m1 t m0 g4 g5 g6 g7 ga gb)
      (k0_pay55 h m3 m2 m1 t m0 g4 g5 g6 g7 ga gb)
      (k0_pay56 h m3 m2 m1 t m0 g4 g5 g6 g7 ga gb)
      (k0_pay57 h m3 m2 m1 t m0 g4 g5 g6 g7 ga gb)
      (k0_pay58 h m3 m2 m1 t m0 g4 g5 g6 g7 ga gb)
      (k0_pay59 h m3 m2 m1 t m0 g4 g5 g6 g7 ga gb)
      (k0_pay60 m3 m2 m1 t m0 g4 g5 g6 g7 ga gb)
      = restored h s (k0_pay52 m3 m2 m1 t m0 g4 g5 g6 g7 ga gb) := rfl

/-- The lower rows, rotated back. -/
theorem lower_restored (h : FVec F S128x128 .bf16) (s : FVec F S1x1024 .f32) (q : FVec F S512x1024 .f32) :
    k0_pay1 (k0_pay2 s) (k0_pay119 h q) (k0_pay121 h q) (k0_pay122 h q) (k0_pay123 h q) (k0_pay124 h q)
      (k0_pay125 h q) (k0_pay126 h q) (k0_pay127 h q) (k0_pay128 h q) = restored h s (truncf .bf16 q bitsLt_bf16_f32) := rfl

end Cert.Half

end
-- ==== Proof.Hadamard.lean ====
/- The Walsh–Hadamard transform over the reals: butterfly stages one bit at a time, the same transform as a sum with
   signs over the low bits, and as butterflies over eight chunks of 128 positions. -/
module

public import Mathlib.Algebra.BigOperators.Group.Finset.Basic
public import Mathlib.Algebra.BigOperators.Ring.Finset
public import Mathlib.Algebra.BigOperators.Fin
public import Mathlib.Data.Real.Basic
public import Mathlib.Tactic.Ring
public import Mathlib.Tactic.IntervalCases
public import Mathlib.Tactic.NormNum

@[expose] public section

noncomputable section

namespace Cert.Hadamard

/-- One butterfly stage of half-width `h`: a position in the lower half of its group of `2 * h` gets the sum of the
    pair it belongs to, a position in the upper half the difference. -/
def stage (h : ℕ) (f : ℕ → ℝ) (p : ℕ) : ℝ :=
  if p / h % 2 = 0 then f p + f (p + h) else f (p - h) - f p

/-- The first `n` butterfly stages, of half-widths `1, 2, …, 2 ^ (n - 1)`. -/
def had : ℕ → (ℕ → ℝ) → ℕ → ℝ
  | 0, f => f
  | n + 1, f => stage (2 ^ n) (had n f)

/-- The sign with which position `i` enters position `j` of the first `n` stages: minus once for every bit that both
    have. -/
def sgn : ℕ → ℕ → ℕ → ℤ
  | 0, _, _ => 1
  | n + 1, i, j => (if i / 2 ^ n % 2 = 1 ∧ j / 2 ^ n % 2 = 1 then -1 else 1) * sgn n (i % 2 ^ n) (j % 2 ^ n)

/-- A stage at a position of the lower half of its group. -/
theorem stage_lower (h : ℕ) (f : ℕ → ℝ) (a i : ℕ) (hi : i < h) :
    stage h f (2 * h * a + i) = f (2 * h * a + i) + f (2 * h * a + i + h) := by
  have hd : (2 * h * a + i) / h = 2 * a := by
    rw [show 2 * h * a + i = i + h * (2 * a) by ring, Nat.add_mul_div_left _ _ (by omega), Nat.div_eq_of_lt hi, zero_add]
  rw [stage, hd, if_pos (by omega)]

/-- A stage at a position of the upper half of its group. -/
theorem stage_upper (h : ℕ) (f : ℕ → ℝ) (a i : ℕ) (hi : i < h) :
    stage h f (2 * h * a + h + i) = f (2 * h * a + i) - f (2 * h * a + h + i) := by
  have hd : (2 * h * a + h + i) / h = 2 * a + 1 := by
    rw [show 2 * h * a + h + i = i + h * (2 * a + 1) by ring, Nat.add_mul_div_left _ _ (by omega), Nat.div_eq_of_lt hi,
      zero_add]
  rw [stage, hd, if_neg (by omega)]
  congr 2
  omega

/-- The first `n` stages are a sum with signs over the group of `2 ^ n` positions. -/
theorem had_eq_sum (n : ℕ) (f : ℕ → ℝ) (a j : ℕ) (hj : j < 2 ^ n) :
    had n f (2 ^ n * a + j) = ∑ i ∈ Finset.range (2 ^ n), (sgn n i j : ℝ) * f (2 ^ n * a + i) := by
  induction n generalizing a j with
  | zero =>
    obtain rfl : j = 0 := by simpa using hj
    simp [had, sgn]
  | succ n ih =>
    have hp : 0 < 2 ^ n := Nat.two_pow_pos n
    have h2 : 2 ^ (n + 1) = 2 ^ n + 2 ^ n := by ring
    rw [h2, Finset.sum_range_add]
    rcases Nat.lt_or_ge j (2 ^ n) with h | h
    · rw [show (2 ^ n + 2 ^ n) * a + j = 2 * 2 ^ n * a + j by ring, had, stage_lower _ _ _ _ h,
        show 2 * 2 ^ n * a + j + 2 ^ n = 2 ^ n * (2 * a + 1) + j by ring,
        show 2 * 2 ^ n * a + j = 2 ^ n * (2 * a) + j by ring, ih _ _ h, ih _ _ h]
      congr 1 <;> refine Finset.sum_congr rfl fun i hi => ?_ <;> rw [Finset.mem_range] at hi
      · rw [sgn, Nat.mod_eq_of_lt hi, Nat.mod_eq_of_lt h, Nat.div_eq_of_lt hi, if_neg (by simp), one_mul,
          show 2 ^ n * (2 * a) + i = (2 ^ n + 2 ^ n) * a + i by ring]
      · rw [sgn, Nat.div_eq_of_lt h, if_neg (by simp), one_mul, Nat.mod_eq_of_lt h, Nat.add_mod_left,
          Nat.mod_eq_of_lt hi, show 2 ^ n * (2 * a + 1) + i = (2 ^ n + 2 ^ n) * a + (2 ^ n + i) by ring]
    · obtain ⟨j, rfl⟩ := Nat.exists_eq_add_of_le h
      have hj' : j < 2 ^ n := by omega
      rw [show (2 ^ n + 2 ^ n) * a + (2 ^ n + j) = 2 * 2 ^ n * a + 2 ^ n + j by ring, had, stage_upper _ _ _ _ hj',
        show 2 * 2 ^ n * a + 2 ^ n + j = 2 ^ n * (2 * a + 1) + j by ring,
        show 2 * 2 ^ n * a + j = 2 ^ n * (2 * a) + j by ring, ih _ _ hj', ih _ _ hj', sub_eq_add_neg,
        ← Finset.sum_neg_distrib]
      have hd : ∀ i, i < 2 ^ n → (2 ^ n + i) / 2 ^ n = 1 := fun i hi => by
        rw [Nat.add_div_left _ hp, Nat.div_eq_of_lt hi]
      congr 1 <;> refine Finset.sum_congr rfl fun i hi => ?_ <;> rw [Finset.mem_range] at hi
      · rw [sgn, Nat.mod_eq_of_lt hi, Nat.div_eq_of_lt hi, if_neg (by simp), one_mul, Nat.add_mod_left,
          Nat.mod_eq_of_lt hj', show 2 ^ n * (2 * a) + i = (2 ^ n + 2 ^ n) * a + i by ring]
      · rw [sgn, hd i hi, hd j hj', if_pos ⟨rfl, rfl⟩, Nat.add_mod_left, Nat.add_mod_left, Nat.mod_eq_of_lt hi,
          Nat.mod_eq_of_lt hj', show 2 ^ n * (2 * a + 1) + i = (2 ^ n + 2 ^ n) * a + (2 ^ n + i) by ring]
        push_cast
        ring

/-- Entry `k` of three butterfly stages over eight values, the widest pairs first. -/
def bfly (k : ℕ) (c : ℕ → ℝ) : ℝ :=
  match k with
  | 0 => ((c 0 + c 4) + (c 2 + c 6)) + ((c 1 + c 5) + (c 3 + c 7))
  | 1 => ((c 0 + c 4) + (c 2 + c 6)) - ((c 1 + c 5) + (c 3 + c 7))
  | 2 => ((c 0 + c 4) - (c 2 + c 6)) + ((c 1 + c 5) - (c 3 + c 7))
  | 3 => ((c 0 + c 4) - (c 2 + c 6)) - ((c 1 + c 5) - (c 3 + c 7))
  | 4 => ((c 0 - c 4) + (c 2 - c 6)) + ((c 1 - c 5) + (c 3 - c 7))
  | 5 => ((c 0 - c 4) + (c 2 - c 6)) - ((c 1 - c 5) + (c 3 - c 7))
  | 6 => ((c 0 - c 4) - (c 2 - c 6)) + ((c 1 - c 5) - (c 3 - c 7))
  | _ => ((c 0 - c 4) - (c 2 - c 6)) - ((c 1 - c 5) - (c 3 - c 7))

/-- The stages of half-widths 128, 256 and 512, at chunk `k` of a row, are the butterflies over the row's chunks. -/
theorem stages_eq_bfly (g : ℕ → ℝ) (n k j : ℕ) (hk : k < 8) (hj : j < 128) :
    stage 512 (stage 256 (stage 128 g)) (1024 * n + (128 * k + j))
      = bfly k fun k' => g (1024 * n + (128 * k' + j)) := by
  have lo (h : ℕ) (f : ℕ → ℝ) (p : ℕ) (hp : p / h % 2 = 0) : stage h f p = f p + f (p + h) := by rw [stage, if_pos hp]
  have hi (h : ℕ) (f : ℕ → ℝ) (p q : ℕ) (hq : q / h % 2 = 1) (hpq : q = p + h) : stage h f q = f p - f q := by
    rw [stage, if_neg (by omega)]; congr 2; omega
  have e (k' : ℕ) : 1024 * n + (128 * k' + j) + 512 = 1024 * n + (128 * (k' + 4) + j) := by ring
  have e2 (k' : ℕ) : 1024 * n + (128 * k' + j) + 256 = 1024 * n + (128 * (k' + 2) + j) := by ring
  have e1 (k' : ℕ) : 1024 * n + (128 * k' + j) + 128 = 1024 * n + (128 * (k' + 1) + j) := by ring
  have A (k' : ℕ) (h : k' < 4) (f : ℕ → ℝ) : stage 512 f (1024 * n + (128 * k' + j))
      = f (1024 * n + (128 * k' + j)) + f (1024 * n + (128 * (k' + 4) + j)) := by rw [lo _ _ _ (by omega), e]
  have A' (k' : ℕ) (h : k' < 4) (f : ℕ → ℝ) : stage 512 f (1024 * n + (128 * (k' + 4) + j))
      = f (1024 * n + (128 * k' + j)) - f (1024 * n + (128 * (k' + 4) + j)) := hi _ _ _ _ (by omega) (by omega)
  have B (k' : ℕ) (h : k' % 4 < 2) (f : ℕ → ℝ) : stage 256 f (1024 * n + (128 * k' + j))
      = f (1024 * n + (128 * k' + j)) + f (1024 * n + (128 * (k' + 2) + j)) := by rw [lo _ _ _ (by omega), e2]
  have B' (k' : ℕ) (h : k' % 4 < 2) (f : ℕ → ℝ) : stage 256 f (1024 * n + (128 * (k' + 2) + j))
      = f (1024 * n + (128 * k' + j)) - f (1024 * n + (128 * (k' + 2) + j)) := hi _ _ _ _ (by omega) (by omega)
  have C (k' : ℕ) (h : k' % 2 = 0) (f : ℕ → ℝ) : stage 128 f (1024 * n + (128 * k' + j))
      = f (1024 * n + (128 * k' + j)) + f (1024 * n + (128 * (k' + 1) + j)) := by rw [lo _ _ _ (by omega), e1]
  have C' (k' : ℕ) (h : k' % 2 = 0) (f : ℕ → ℝ) : stage 128 f (1024 * n + (128 * (k' + 1) + j))
      = f (1024 * n + (128 * k' + j)) - f (1024 * n + (128 * (k' + 1) + j)) := hi _ _ _ _ (by omega) (by omega)
  have a0 := A 0 (by omega); have a1 := A 1 (by omega); have a2 := A 2 (by omega); have a3 := A 3 (by omega)
  have a4 := A' 0 (by omega); have a5 := A' 1 (by omega); have a6 := A' 2 (by omega); have a7 := A' 3 (by omega)
  have b0 := B 0 (by omega); have b1 := B 1 (by omega); have b4 := B 4 (by omega); have b5 := B 5 (by omega)
  have b2 := B' 0 (by omega); have b3 := B' 1 (by omega); have b6 := B' 4 (by omega); have b7 := B' 5 (by omega)
  have c0 := C 0 (by omega); have c2 := C 2 (by omega); have c4 := C 4 (by omega); have c6 := C 6 (by omega)
  have c1 := C' 0 (by omega); have c3 := C' 2 (by omega); have c5 := C' 4 (by omega); have c7 := C' 6 (by omega)
  norm_num only [zero_add] at a0 a1 a2 a3 a4 a5 a6 a7 b0 b1 b2 b3 b4 b5 b6 b7 c0 c1 c2 c3 c4 c5 c6 c7
  interval_cases k <;> simp only [bfly] <;> norm_num only [zero_add]
  · rw [a0, b0, b4, c0, c2, c4, c6]; ring
  · rw [a1, b1, b5, c1, c3, c5, c7]; ring
  · rw [a2, b2, b6, c0, c2, c4, c6]; ring
  · rw [a3, b3, b7, c1, c3, c5, c7]; ring
  · rw [a4, b0, b4, c0, c2, c4, c6]; ring
  · rw [a5, b1, b5, c1, c3, c5, c7]; ring
  · rw [a6, b2, b6, c0, c2, c4, c6]; ring
  · rw [a7, b3, b7, c1, c3, c5, c7]; ring

/-- The butterflies over eight values pass through a sum with weights. -/
theorem bfly_sum {ι : Type} (s : Finset ι) (w : ι → ℝ) (k : ℕ) (c : ℕ → ι → ℝ) :
    bfly k (fun k' => ∑ i ∈ s, w i * c k' i) = ∑ i ∈ s, w i * bfly k fun k' => c k' i := by
  unfold bfly
  split <;> simp only [← Finset.sum_add_distrib, ← Finset.sum_sub_distrib] <;>
    exact Finset.sum_congr rfl fun i _ => by ring

/-- All ten stages at chunk `k` of row `n`: within each chunk the sum with signs, then the butterflies over the
    chunks. -/
theorem had_ten (f : ℕ → ℝ) (n k j : ℕ) (hk : k < 8) (hj : j < 128) :
    had 10 f (1024 * n + (128 * k + j))
      = bfly k fun k' => ∑ i : Fin 128, (sgn 7 i j : ℝ) * f (1024 * n + (128 * k' + i)) := by
  have h7 (k' : ℕ) : had 7 f (1024 * n + (128 * k' + j))
      = ∑ i : Fin 128, (sgn 7 i j : ℝ) * f (1024 * n + (128 * k' + i)) := by
    have h := had_eq_sum 7 f (8 * n + k') j (by simpa using hj)
    rw [Finset.sum_range] at h
    rw [show 1024 * n + (128 * k' + j) = 2 ^ 7 * (8 * n + k') + j by ring, h]
    refine Finset.sum_congr rfl fun i _ => ?_
    rw [show 1024 * n + (128 * k' + (i : ℕ)) = 2 ^ 7 * (8 * n + k') + i by ring]
  have h10 : had 10 f = stage 512 (stage 256 (stage 128 (had 7 f))) := rfl
  rw [h10, stages_eq_bfly _ _ _ _ hk hj]
  simp only [h7]

/-- All ten stages with the butterflies over the chunks taken first. -/
theorem had_ten' (f : ℕ → ℝ) (n k j : ℕ) (hk : k < 8) (hj : j < 128) :
    had 10 f (1024 * n + (128 * k + j))
      = ∑ i : Fin 128, (sgn 7 i j : ℝ) * bfly k fun k' => f (1024 * n + (128 * k' + i)) := by
  rw [had_ten f n k j hk hj, bfly_sum Finset.univ (fun i : Fin 128 => (sgn 7 i j : ℝ)) k
    fun k' i => f (1024 * n + (128 * k' + i))]

end Cert.Hadamard

end
-- ==== Proof.Stages.lean ====
/- One butterfly stage of the reference's transform, read at row-major positions: slicing the two halves of each group,
   adding and subtracting them and joining the results is `Hadamard.stage` of the array's numbers. -/
module

public import proofs.«01_k».proof.Proof.Hadamard
public import Idealize.ShloMosaic.Lib.Pointwise
public import Idealize.ShloMosaic.Lib.Pipeline.Value
public import Idealize.ShloMosaic.PureOps.Ideal

@[expose] public section

noncomputable section

namespace Cert.Stages

open Idealize.ShloMosaic Idealize.ShloMosaic.TcCoe Idealize.SL.Sem

/-- The array `A` holds the real `f p` at row-major position `p`. -/
def Flat {s : Shape} (A : FVec Ideal s .f32) (f : ℕ → ℝ) : Prop :=
  ∀ i : s.Idx, A i = ((f (s.rowMajor i) : ℝ) : EReal)

/-- A reshape leaves every element at its row-major position. -/
theorem Flat.shapeCast {s t : Shape} {A : FVec Ideal s .f32} {f : ℕ → ℝ} (hA : Flat A f) (h : s.ShapeCasts t) :
    Flat (shapeCast t A h) f := fun i => by
  show A (Shape.reshapeEquiv h i) = _
  rw [hA, Shape.rowMajor_reshapeEquiv]

/-- The half of a group that starts at `o` of the group axis, read at row `n`, group `a` and place `j`. -/
theorem half_apply {N g h : ℕ} (o : ℕ) (ho : o < 2) {A : FVec Ideal ⟨4, ![N, g, 2, h]⟩ .f32} {f : ℕ → ℝ} (hA : Flat A f)
    (hs : (⟨4, ![N, g, 2, h]⟩ : Shape).Slices ![0, 0, o, 0] ⟨4, ![N, g, 1, h]⟩)
    (hc : (⟨4, ![N, g, 1, h]⟩ : Shape).ShapeCasts ⟨3, ![N, g, h]⟩) (n : Fin N) (a : Fin g) (j : Fin h) :
    shapeCast ⟨3, ![N, g, h]⟩ (extractStridedSlice ⟨4, ![N, g, 1, h]⟩ ![0, 0, o, 0] A hs) hc (ix3 n a j)
      = ((f (2 * h * (g * n + a) + o * h + j) : ℝ) : EReal) := by
  rw [shapeCast_apply _ hc (ix3 n a j) (ix4 n a (0 : Fin 1) j)
    (by rw [rowMajor_val4 _ (g * (1 * h)) (1 * h) h rfl rfl rfl, rowMajor_val3 _ (g * h) h rfl rfl]; simp),
    extractStridedSlice_apply _ A hs (ix4 n a (0 : Fin 1) j) (ix4 n a (⟨o, ho⟩ : Fin 2) j)
      (fun b => by match b with | ⟨0, _⟩ => simp | ⟨1, _⟩ => simp | ⟨2, _⟩ => simp | ⟨3, _⟩ => simp),
    hA, rowMajor_val4 _ (g * (2 * h)) (2 * h) h rfl rfl rfl]
  congr 2
  simp
  ring

/-- One stage of the reference: the sums of the two halves joined with their differences. -/
theorem stage_flat {N g h : ℕ} {A : FVec Ideal ⟨4, ![N, g, 2, h]⟩ .f32} {f : ℕ → ℝ} (hA : Flat A f)
    (hs0 : (⟨4, ![N, g, 2, h]⟩ : Shape).Slices ![0, 0, 0, 0] ⟨4, ![N, g, 1, h]⟩)
    (hs1 : (⟨4, ![N, g, 2, h]⟩ : Shape).Slices ![0, 0, 1, 0] ⟨4, ![N, g, 1, h]⟩)
    (hc : (⟨4, ![N, g, 1, h]⟩ : Shape).ShapeCasts ⟨3, ![N, g, h]⟩)
    (hb : (⟨3, ![N, g, h]⟩ : Shape).BroadcastsInDim ⟨4, ![N, g, 1, h]⟩ ![0, 1, 3])
    (hj : Shape.Concatenates [⟨4, ![N, g, 1, h]⟩, ⟨4, ![N, g, 1, h]⟩] ⟨4, ![N, g, 2, h]⟩ 2) :
    Flat (concatenate ⟨4, ![N, g, 2, h]⟩ 2
      [⟨⟨4, ![N, g, 1, h]⟩, broadcastInDim ⟨4, ![N, g, 1, h]⟩ ![0, 1, 3] hb
          (addf (shapeCast ⟨3, ![N, g, h]⟩ (extractStridedSlice ⟨4, ![N, g, 1, h]⟩ ![0, 0, 0, 0] A hs0) hc)
            (shapeCast ⟨3, ![N, g, h]⟩ (extractStridedSlice ⟨4, ![N, g, 1, h]⟩ ![0, 0, 1, 0] A hs1) hc))⟩,
        ⟨⟨4, ![N, g, 1, h]⟩, broadcastInDim ⟨4, ![N, g, 1, h]⟩ ![0, 1, 3] hb
          (subf (shapeCast ⟨3, ![N, g, h]⟩ (extractStridedSlice ⟨4, ![N, g, 1, h]⟩ ![0, 0, 0, 0] A hs0) hc)
            (shapeCast ⟨3, ![N, g, h]⟩ (extractStridedSlice ⟨4, ![N, g, 1, h]⟩ ![0, 0, 1, 0] A hs1) hc))⟩] hj)
      (Hadamard.stage h f) := by
  have hbc (x : FVec Ideal ⟨3, ![N, g, h]⟩ .f32) (n : Fin N) (a : Fin g) (j : Fin h) :
      broadcastInDim ⟨4, ![N, g, 1, h]⟩ ![0, 1, 3] hb x (ix4 n a (0 : Fin 1) j) = x (ix3 n a j) :=
    broadcastInDim_apply _ hb x _ _ fun b => by
      match b with
      | ⟨0, _⟩ =>
        show (n : ℕ) = if N = 1 then 0 else (n : ℕ)
        have := n.isLt
        split <;> omega
      | ⟨1, _⟩ =>
        show (a : ℕ) = if g = 1 then 0 else (a : ℕ)
        have := a.isLt
        split <;> omega
      | ⟨2, _⟩ =>
        show (j : ℕ) = if h = 1 then 0 else (j : ℕ)
        have := j.isLt
        split <;> omega
  intro i
  obtain ⟨n, a, b, j, rfl⟩ : ∃ (n : Fin N) (a : Fin g) (b : Fin 2) (j : Fin h), i = ix4 n a b j :=
    ⟨i 0, i 1, i 2, i 3, (ValueIdx.eq_ix4 i).trans (ix4_eq_valueIdx _ _ _ _).symm⟩
  rw [rowMajor_val4 _ (g * (2 * h)) (2 * h) h rfl rfl rfl]
  match b with
  | ⟨0, _⟩ =>
    rw [concatenate_pair_apply_left 2 _ _ hj _ rfl (ix4 n a (0 : Fin 1) j)
      (fun b => by match b with | ⟨0, _⟩ => rfl | ⟨1, _⟩ => rfl | ⟨2, _⟩ => rfl | ⟨3, _⟩ => rfl), hbc, addf_apply,
      half_apply 0 (by omega) hA hs0 hc, half_apply 1 (by omega) hA hs1 hc]
    have e : (n : ℕ) * (g * (2 * h)) + a * (2 * h) + 0 * h + j = 2 * h * (g * n + a) + j := by ring
    show _ = ((Hadamard.stage h f ((n : ℕ) * (g * (2 * h)) + a * (2 * h) + 0 * h + j) : ℝ) : EReal)
    rw [e, Hadamard.stage_lower _ _ _ _ j.isLt, EReal.coe_add]
    congr 3 <;> ring
  | ⟨1, _⟩ =>
    rw [concatenate_pair_apply_right 2 _ _ hj _ rfl rfl (ix4 n a (0 : Fin 1) j)
      (fun b hb => by match b with | ⟨0, _⟩ => rfl | ⟨1, _⟩ => rfl | ⟨2, _⟩ => exact absurd rfl hb | ⟨3, _⟩ => rfl) rfl,
      hbc, subf_apply, half_apply 0 (by omega) hA hs0 hc, half_apply 1 (by omega) hA hs1 hc]
    have e : (n : ℕ) * (g * (2 * h)) + a * (2 * h) + 1 * h + j = 2 * h * (g * n + a) + h + j := by ring
    show _ = ((Hadamard.stage h f ((n : ℕ) * (g * (2 * h)) + a * (2 * h) + 1 * h + j) : ℝ) : EReal)
    rw [e, Hadamard.stage_upper _ _ _ _ j.isLt, EReal.coe_sub]
    congr 3 <;> ring

end Cert.Stages

end
-- ==== Proof.Consts.lean ====
/- The numbers behind the literal words of the two programs. -/
module

public import Idealize.ShloMosaic.PureOps.Ideal
public import Mathlib.Tactic.NormNum

@[expose] public section

noncomputable section

namespace Cert.Consts

open Idealize.ShloMosaic

/-- `1/32` as f32. -/
theorem f32_inv32 : Ideal.ofBits .f32 0x3D000000#32 = (((1 / 32 : ℝ)) : EReal) := by
  simp [Ideal.ofBits, Ideal.ieee, -EReal.coe_mul]
  norm_num

/-- `1/2` as f32. -/
theorem f32_half : Ideal.ofBits .f32 0x3F000000#32 = (((1 / 2 : ℝ)) : EReal) := by
  simp [Ideal.ofBits, Ideal.ieee, -EReal.coe_mul]
  norm_num

/-- Plus infinity as f32. -/
theorem f32_inf : Ideal.ofBits .f32 0x7F800000#32 = (⊤ : EReal) := by
  simp [Ideal.ofBits, Ideal.ieee]

/-- `1/32` as bf16. -/
theorem bf16_inv32 : Ideal.ofBits .bf16 0x3D00#16 = (((1 / 32 : ℝ)) : EReal) := by
  simp [Ideal.ofBits, Ideal.ieee, -EReal.coe_mul]
  norm_num

/-- `-1/32` as bf16. -/
theorem bf16_neg_inv32 : Ideal.ofBits .bf16 0xBD00#16 = (((-(1 / 32) : ℝ)) : EReal) := by
  simp [Ideal.ofBits, Ideal.ieee, -EReal.coe_mul]
  norm_num

end Cert.Consts

end
-- ==== Proof.Reference.lean ====
/- The reference's two results at row-major positions, as real arithmetic: the rotated entry, the number of boundaries
   below it, and the rotation back of the centroids those numbers name. -/
module

public import proofs.«01_k».proof.Proof.Gen.ReferenceIdeal.Run
public import proofs.«01_k».proof.Proof.Stages
public import proofs.«01_k».proof.Proof.Consts

@[expose] public section

set_option maxRecDepth 16384

noncomputable section

namespace Cert.Reference

open Idealize.ShloMosaic Idealize.ShloMosaic.TcCoe Idealize.SL.Sem
open Cert.ReferenceIdeal Cert.ReferenceIdeal.Gen Cert.ReferenceIdeal.Value
open Cert.Stages Cert.Hadamard

/-- The arguments' contents by name. -/
abbrev Args := Valuation τ sig (Elt Ideal)

/-- The rotated entry at position `p`: signs, transform, scale. -/
def rot (X S : ℕ → ℝ) (p : ℕ) : ℝ := had 10 (fun q => X q * S (q % 1024)) p * (1 / 32)

/-- How many of the fifteen boundaries lie below `y`. -/
def count (B : ℕ → ℝ) (y : ℝ) : ℕ := ((Finset.univ : Finset (Fin 15)).filter fun k : Fin 15 => B k < y).card

/-- The index of position `p`. -/
def index (X S B : ℕ → ℝ) (p : ℕ) : ℕ := count B (rot X S p)

/-- The reconstructed entry at position `p`: transform of the centroids, scale, signs. -/
def recon (X S C B : ℕ → ℝ) (p : ℕ) : ℝ := S (p % 1024) * (had 10 (fun q => C (index X S B q)) p * (1 / 32))

variable {V : Args} {X S C B : ℕ → ℝ}

/-- The arguments hold the reals `X`, `S`, `C` and `B`. -/
structure Holds (V : Args) (X S C B : ℕ → ℝ) : Prop where
  x : Flat (s := S65536x1024) (V (Proc.devRef .tc main_arg0)) X
  s : Flat (s := S1024) (V (Proc.devRef .tc main_arg1)) S
  c : Flat (s := S16) (V (Proc.devRef .tc main_arg2)) C
  b : Flat (s := S15) (V (Proc.devRef .tc main_arg3)) B

/-- The sign row, broadcast to every row of the array. -/
theorem signs_flat (H : Holds V X S C B) :
    Flat (broadcastInDim S65536x1024 ![0, 1] bcast_S1x1024_S65536x1024_0_1
      (broadcastInDim S1x1024 ![1] bcast_S1024_S1x1024_1 (V (Proc.devRef .tc main_arg1)) : FVec Ideal S1x1024 .f32))
      fun q => S (q % 1024) := fun i => by
  obtain ⟨n, p, rfl⟩ : ∃ (n : Fin 65536) (p : Fin 1024), i = ix2 n p :=
    ⟨i 0, i 1, (ValueIdx.eq_ix2 i).trans (ix2_eq_valueIdx _ _).symm⟩
  rw [broadcastInDim_apply _ _ _ _ (ix2 (0 : Fin 1) p) (fun b => by match b with | ⟨0, _⟩ => rfl | ⟨1, _⟩ => rfl),
    broadcastInDim_apply _ _ _ _ (ix1 p) (fun b => by match b with | ⟨0, _⟩ => rfl), H.s, rowMajor_val1,
    rowMajor_val2 _ 1024 rfl]
  have := p.isLt
  simp [Nat.mul_add_mod_of_lt this]

/-- A product of two arrays of reals. -/
theorem flat_mul {s : Shape} {A A' : FVec Ideal s .f32} {f f' : ℕ → ℝ} (h : Flat A f) (h' : Flat A' f') :
    Flat (mulf A A') fun q => f q * f' q := fun i => by
  rw [mulf_apply, h, h']
  exact (EReal.coe_mul _ _).symm

/-- The scale, broadcast to the whole array. -/
theorem scale_flat :
    Flat (broadcastInDim S65536x1024 ![] bcast_S_S65536x1024 (constant S_ .f32 0x3D000000#32 : FVec Ideal S_ .f32))
      fun _ => 1 / 32 := fun i => Consts.f32_inv32

/-- The signed input, grouped for the first stage. -/
theorem flat3 (H : Holds V X S C B) :
    Flat (s := S65536x512x2x1) (res_main_v3 V) (fun q => X q * S (q % 1024)) := by
  unfold res_main_v3
  exact (flat_mul H.x (signs_flat H)).shapeCast _

/-- After stage 1. -/
theorem flat13 (H : Holds V X S C B) :
    Flat (s := S65536x256x2x2) (res_main_v13 V) (had 1 (fun q => X q * S (q % 1024))) := by
  unfold res_main_v13 res_main_v5 res_main_v7
  exact (stage_flat (flat3 H) _ _ _ _ _).shapeCast _

/-- After stage 2. -/
theorem flat23 (H : Holds V X S C B) :
    Flat (s := S65536x128x2x4) (res_main_v23 V) (had 2 (fun q => X q * S (q % 1024))) := by
  unfold res_main_v23 res_main_v15 res_main_v17
  exact (stage_flat (flat13 H) _ _ _ _ _).shapeCast _

/-- After stage 3. -/
theorem flat33 (H : Holds V X S C B) :
    Flat (s := S65536x64x2x8) (res_main_v33 V) (had 3 (fun q => X q * S (q % 1024))) := by
  unfold res_main_v33 res_main_v25 res_main_v27
  exact (stage_flat (flat23 H) _ _ _ _ _).shapeCast _

/-- After stage 4. -/
theorem flat43 (H : Holds V X S C B) :
    Flat (s := S65536x32x2x16) (res_main_v43 V) (had 4 (fun q => X q * S (q % 1024))) := by
  unfold res_main_v43 res_main_v35 res_main_v37
  exact (stage_flat (flat33 H) _ _ _ _ _).shapeCast _

/-- After stage 5. -/
theorem flat53 (H : Holds V X S C B) :
    Flat (s := S65536x16x2x32) (res_main_v53 V) (had 5 (fun q => X q * S (q % 1024))) := by
  unfold res_main_v53 res_main_v45 res_main_v47
  exact (stage_flat (flat43 H) _ _ _ _ _).shapeCast _

/-- After stage 6. -/
theorem flat63 (H : Holds V X S C B) :
    Flat (s := S65536x8x2x64) (res_main_v63 V) (had 6 (fun q => X q * S (q % 1024))) := by
  unfold res_main_v63 res_main_v55 res_main_v57
  exact (stage_flat (flat53 H) _ _ _ _ _).shapeCast _

/-- After stage 7. -/
theorem flat73 (H : Holds V X S C B) :
    Flat (s := S65536x4x2x128) (res_main_v73 V) (had 7 (fun q => X q * S (q % 1024))) := by
  unfold res_main_v73 res_main_v65 res_main_v67
  exact (stage_flat (flat63 H) _ _ _ _ _).shapeCast _

/-- After stage 8. -/
theorem flat83 (H : Holds V X S C B) :
    Flat (s := S65536x2x2x256) (res_main_v83 V) (had 8 (fun q => X q * S (q % 1024))) := by
  unfold res_main_v83 res_main_v75 res_main_v77
  exact (stage_flat (flat73 H) _ _ _ _ _).shapeCast _

/-- After stage 9. -/
theorem flat93 (H : Holds V X S C B) :
    Flat (s := S65536x1x2x512) (res_main_v93 V) (had 9 (fun q => X q * S (q % 1024))) := by
  unfold res_main_v93 res_main_v85 res_main_v87
  exact (stage_flat (flat83 H) _ _ _ _ _).shapeCast _

/-- The rotated array. -/
theorem rot_flat (H : Holds V X S C B) :
    Flat (mulf (shapeCast _ (concatenate S65536x1x2x512 2 [⟨S65536x1x1x512, (broadcastInDim S65536x1x1x512 ![0, 1, 3] bcast_S65536x1x512_S65536x1x1x512_0_1_3 (addf (res_main_v95 V) (res_main_v97 V)))⟩, ⟨S65536x1x1x512, (broadcastInDim S65536x1x1x512 ![0, 1, 3] bcast_S65536x1x512_S65536x1x1x512_0_1_3 (subf (res_main_v95 V) (res_main_v97 V)))⟩] concatenates_S65536x1x1x512_S65536x1x1x512_S65536x1x2x512_d2) shapeCasts_S65536x1x2x512_S65536x1024) (broadcastInDim S65536x1024 ![] bcast_S_S65536x1024 (constant S_ .f32 0x3D000000#32)) : FVec Ideal S65536x1024 .f32)
      (rot X S) := by
  unfold res_main_v95 res_main_v97
  exact flat_mul ((stage_flat (flat93 H) _ _ _ _ _).shapeCast _) scale_flat

/-- Adding up bits, each widened to a word, counts the ones. -/
theorem fold_bits {ι : Type} [DecidableEq ι] (s : Finset ι) (p : ι → Prop) [DecidablePred p] (f : ι → BitVec 32)
    (hf : ∀ k, f k = if p k then 1#32 else 0#32) :
    s.fold IntOp.addi 0#32 f = BitVec.ofNat 32 (s.filter p).card := by
  induction s using Finset.induction_on with
  | empty => rfl
  | insert a s ha ih =>
    rw [Finset.fold_insert ha, ih, hf, Finset.filter_insert]
    by_cases hp : p a
    · rw [if_pos hp, if_pos hp, Finset.card_insert_of_notMem (by simp [ha])]
      show 1#32 + BitVec.ofNat 32 _ = _
      rw [Nat.add_comm, BitVec.ofNat_add]
    · rw [if_neg hp, if_neg hp]
      exact BitVec.zero_add _

/-- The index array: at row `n` and column `p` the number of boundaries below the rotated entry. -/
theorem index_apply (H : Holds V X S C B) (n : Fin 65536) (p : Fin 1024) :
    (res_main_v112 V : IVec S65536x1024 32) (ix2 n p) = BitVec.ofNat 32 (index X S B (1024 * n + p)) := by
  unfold res_main_v112
  have hR : S65536x1024x15.Reduces [2] S65536x1024 := by decide
  rw [Host.reduce_eq_fold_single (IntOp.addi (w := 32)) _ _ _ hR]
  refine fold_bits (Finset.univ : Finset (Fin 15)) (fun k : Fin 15 => B k < rot X S (1024 * n + p)) _ fun k => ?_
  have hl : hR.lift (ix2 n p) k = ix3 n p k := by
    funext b; match b with | ⟨0, _⟩ => rfl | ⟨1, _⟩ => rfl | ⟨2, _⟩ => rfl
  have hp : S65536x1024.rowMajor (ix2 n p) = (1024 * n + p : ℕ) := by
    rw [rowMajor_val2 _ 1024 rfl]
    simp
    ring
  have hb : broadcastInDim S65536x1024x15 ![0, 1, 2] bcast_S1x1x15_S65536x1024x15_0_1_2
      (broadcastInDim S1x1x15 ![2] bcast_S15_S1x1x15_2 (V (Proc.devRef .tc main_arg3)) : FVec Ideal S1x1x15 .f32)
      (ix3 n p k) = ((B k : ℝ) : EReal) := by
    rw [broadcastInDim_apply _ _ _ _ (ix3 (0 : Fin 1) (0 : Fin 1) k)
        (fun b => by match b with | ⟨0, _⟩ => rfl | ⟨1, _⟩ => rfl | ⟨2, _⟩ => rfl),
      broadcastInDim_apply _ _ _ _ (ix1 k) (fun b => by match b with | ⟨0, _⟩ => rfl), H.b, rowMajor_val1]
    rfl
  have hy (y : FVec Ideal S65536x1024 .f32) : broadcastInDim S65536x1024x15 ![0, 1, 2]
      bcast_S65536x1024x1_S65536x1024x15_0_1_2 (broadcastInDim S65536x1024x1 ![0, 1]
        bcast_S65536x1024_S65536x1024x1_0_1 y) (ix3 n p k) = y (ix2 n p) := by
    rw [broadcastInDim_apply _ _ _ _ (ix3 n p (0 : Fin 1))
        (fun b => by match b with | ⟨0, _⟩ => rfl | ⟨1, _⟩ => rfl | ⟨2, _⟩ => rfl),
      broadcastInDim_apply _ _ _ _ (ix2 n p) (fun b => by match b with | ⟨0, _⟩ => rfl | ⟨1, _⟩ => rfl)]
  show (cmpf .olt _ _ (hR.lift (ix2 n p) k)).setWidth 32 = _
  rw [hl]
  show (FloatOps.cmpf (F := Ideal) (φ := .f32) .olt (broadcastInDim _ _ _ _ (ix3 n p k))
    (broadcastInDim _ _ _ _ (ix3 n p k))).setWidth 32 = _
  rw [hb, hy, rot_flat H, hp]
  show (BitVec.ofBool (decide (((B k : ℝ) : EReal) < ((rot X S (1024 * n + p) : ℝ) : EReal)))).setWidth 32 = _
  by_cases h : B k < rot X S (1024 * n + p)
  · rw [if_pos h, decide_eq_true (EReal.coe_lt_coe_iff.2 h)]
    rfl
  · rw [if_neg h, decide_eq_false (fun h' => h (EReal.coe_lt_coe_iff.1 h'))]
    rfl

/-- A count of fifteen boundaries is at most fifteen. -/
theorem count_le (B : ℕ → ℝ) (y : ℝ) : count B y ≤ 15 :=
  (Finset.card_filter_le _ _).trans (by simp)

/-- The centroids that the indices name, grouped for the first stage of the transform back. -/
theorem flat120 (H : Holds V X S C B) :
    Flat (s := S65536x512x2x1) (res_main_v120 V) (fun q => C (index X S B q)) := by
  unfold res_main_v120
  refine Flat.shapeCast (fun i => ?_) _
  obtain ⟨n, p, rfl⟩ : ∃ (n : Fin 65536) (p : Fin 1024), i = ix2 n p :=
    ⟨i 0, i 1, (ValueIdx.eq_ix2 i).trans (ix2_eq_valueIdx _ _).symm⟩
  have hp : S65536x1024.rowMajor (ix2 n p) = (1024 * n + p : ℕ) := by
    rw [rowMajor_val2 _ 1024 rfl]
    simp
    ring
  have hk : ∀ k : ℕ, k ≤ 15 → ((BitVec.ofNat 32 k).slt 0#32 = false) ∧ (BitVec.ofNat 32 k).toInt.toNat = k := by
    intro k hk
    interval_cases k <;> decide
  obtain ⟨h0, h1⟩ := hk _ (count_le B (rot X S (1024 * n + p)))
  rw [hp]
  refine (ValueIdx.gather_take_apply (N := 16) (R := 65536) (C := 1024) (by omega)
    gather_S16_S65536x1024x1_S65536x1024_n_0_n_n_0_2_1.wf _ _ (ix2 n p)).trans ?_
  have hi : ValueIdx.takeIdx (ix2 n p) = ix3 n p (0 : Fin 1) := by
    funext b; match b with | ⟨0, _⟩ => rfl | ⟨1, _⟩ => rfl | ⟨2, _⟩ => rfl
  rw [H.c, rowMajor_val1]
  refine congrArg (fun k : ℕ => ((C k : ℝ) : EReal)) ?_
  show min _ 15 = _
  rw [hi, broadcastInDim_apply _ _ _ _ (ix2 n p) (fun b => by match b with | ⟨0, _⟩ => rfl | ⟨1, _⟩ => rfl)]
  show min (Scalar.select (IntOp.cmpi .slt ((res_main_v112 V : IVec S65536x1024 32) (ix2 n p)) 0#32) _
    ((res_main_v112 V : IVec S65536x1024 32) (ix2 n p))).toInt.toNat 15 = _
  rw [index_apply H]
  show min (Scalar.select (BitVec.ofBool ((BitVec.ofNat 32 (count B (rot X S (1024 * n + p)))).slt 0#32)) _
    (BitVec.ofNat 32 (count B (rot X S (1024 * n + p))))).toInt.toNat 15 = _
  rw [h0]
  show min (BitVec.ofNat 32 (count B (rot X S (1024 * n + p)))).toInt.toNat 15 = _
  rw [h1]
  exact min_eq_left (count_le B _)

/-- The transform back after stage 1. -/
theorem flat130 (H : Holds V X S C B) :
    Flat (s := S65536x256x2x2) (res_main_v130 V) (had 1 (fun q => C (index X S B q))) := by
  unfold res_main_v130 res_main_v122 res_main_v124
  exact (stage_flat (flat120 H) _ _ _ _ _).shapeCast _

/-- The transform back after stage 2. -/
theorem flat140 (H : Holds V X S C B) :
    Flat (s := S65536x128x2x4) (res_main_v140 V) (had 2 (fun q => C (index X S B q))) := by
  unfold res_main_v140 res_main_v132 res_main_v134
  exact (stage_flat (flat130 H) _ _ _ _ _).shapeCast _

/-- The transform back after stage 3. -/
theorem flat150 (H : Holds V X S C B) :
    Flat (s := S65536x64x2x8) (res_main_v150 V) (had 3 (fun q => C (index X S B q))) := by
  unfold res_main_v150 res_main_v142 res_main_v144
  exact (stage_flat (flat140 H) _ _ _ _ _).shapeCast _

/-- The transform back after stage 4. -/
theorem flat160 (H : Holds V X S C B) :
    Flat (s := S65536x32x2x16) (res_main_v160 V) (had 4 (fun q => C (index X S B q))) := by
  unfold res_main_v160 res_main_v152 res_main_v154
  exact (stage_flat (flat150 H) _ _ _ _ _).shapeCast _

/-- The transform back after stage 5. -/
theorem flat170 (H : Holds V X S C B) :
    Flat (s := S65536x16x2x32) (res_main_v170 V) (had 5 (fun q => C (index X S B q))) := by
  unfold res_main_v170 res_main_v162 res_main_v164
  exact (stage_flat (flat160 H) _ _ _ _ _).shapeCast _

/-- The transform back after stage 6. -/
theorem flat180 (H : Holds V X S C B) :
    Flat (s := S65536x8x2x64) (res_main_v180 V) (had 6 (fun q => C (index X S B q))) := by
  unfold res_main_v180 res_main_v172 res_main_v174
  exact (stage_flat (flat170 H) _ _ _ _ _).shapeCast _

/-- The transform back after stage 7. -/
theorem flat190 (H : Holds V X S C B) :
    Flat (s := S65536x4x2x128) (res_main_v190 V) (had 7 (fun q => C (index X S B q))) := by
  unfold res_main_v190 res_main_v182 res_main_v184
  exact (stage_flat (flat180 H) _ _ _ _ _).shapeCast _

/-- The transform back after stage 8. -/
theorem flat200 (H : Holds V X S C B) :
    Flat (s := S65536x2x2x256) (res_main_v200 V) (had 8 (fun q => C (index X S B q))) := by
  unfold res_main_v200 res_main_v192 res_main_v194
  exact (stage_flat (flat190 H) _ _ _ _ _).shapeCast _

/-- The transform back after stage 9. -/
theorem flat210 (H : Holds V X S C B) :
    Flat (s := S65536x1x2x512) (res_main_v210 V) (had 9 (fun q => C (index X S B q))) := by
  unfold res_main_v210 res_main_v202 res_main_v204
  exact (stage_flat (flat200 H) _ _ _ _ _).shapeCast _

/-- The reconstructed array, with the name that the run's statement gives its parts. -/
theorem recon_flat (H : Holds V X S C B) :
    Flat (mulf (broadcastInDim S65536x1024 ![0, 1] bcast_S1x1024_S65536x1024_0_1 (broadcastInDim S1x1024 ![1] bcast_S1024_S1x1024_1 (V (Proc.devRef .tc main_arg1)))) (mulf (shapeCast _ (concatenate S65536x1x2x512 2 [⟨S65536x1x1x512, (broadcastInDim S65536x1x1x512 ![0, 1, 3] bcast_S65536x1x512_S65536x1x1x512_0_1_3 (addf (res_main_v212 V) (res_main_v214 V)))⟩, ⟨S65536x1x1x512, (broadcastInDim S65536x1x1x512 ![0, 1, 3] bcast_S65536x1x512_S65536x1x1x512_0_1_3 (subf (res_main_v212 V) (res_main_v214 V)))⟩] concatenates_S65536x1x1x512_S65536x1x1x512_S65536x1x2x512_d2) shapeCasts_S65536x1x2x512_S65536x1024) (broadcastInDim S65536x1024 ![] bcast_S_S65536x1024 (constant S_ .f32 0x3D000000#32))) : FVec Ideal S65536x1024 .f32)
      (recon X S C B) := by
  unfold res_main_v212 res_main_v214
  exact flat_mul (signs_flat H) (flat_mul ((stage_flat (flat210 H) _ _ _ _ _).shapeCast _) scale_flat)

end Cert.Reference

end
-- ==== Proof.Quantiser.lean ====
/- The kernel's four comparisons find how many boundaries lie below a number, and half a gap added to or taken from the
   last boundary is the centroid of that index. -/
module

public import proofs.«01_k».proof.Proof.Half
public import proofs.«01_k».proof.Proof.Reference

@[expose] public section

set_option maxRecDepth 16384

noncomputable section

namespace Cert.Half

open Idealize.ShloMosaic Idealize.ShloMosaic.TcCoe Idealize.SL.Sem
open Cert.KernelIdeal Cert.KernelIdeal.Gen
open Cert.Reference (count count_le)

/-- The fifteen numbers ascend. -/
def Ascending (B : ℕ → ℝ) : Prop := ∀ i j : ℕ, i ≤ j → j < 15 → B i ≤ B j

/-- A boundary lies below `y` exactly if its place is smaller than the count of those that do. -/
theorem lt_count {B : ℕ → ℝ} (hB : Ascending B) (y : ℝ) (k : Fin 15) : B k < y ↔ k.val < count B y := by
  constructor
  · intro h
    have hs : Finset.Iic k ⊆ (Finset.univ : Finset (Fin 15)).filter fun i : Fin 15 => B i < y := fun i hi =>
      Finset.mem_filter.2 ⟨Finset.mem_univ _, lt_of_le_of_lt (hB i k (show i ≤ k from Finset.mem_Iic.1 hi) k.isLt) h⟩
    have := Finset.card_le_card hs
    rw [Fin.card_Iic] at this
    exact this
  · intro h
    by_contra hk
    have hs : ((Finset.univ : Finset (Fin 15)).filter fun i : Fin 15 => B i < y) ⊆ Finset.Iio k := fun i hi =>
      Finset.mem_Iio.2 (not_le.1 fun hki =>
        hk (lt_of_le_of_lt (hB k i hki i.isLt) (Finset.mem_filter.1 hi).2))
    have := Finset.card_le_card hs
    rw [Fin.card_Iio] at this
    exact absurd h (not_lt.2 this)

variable {b : Fin 15 → EReal} {y : FVec Ideal S512x1024 .f32} {i : S512x1024.Idx} {n : ℕ}

/-- The comparisons of `y` at `i` with the boundaries say that `n` boundaries lie below. -/
def Below (b : Fin 15 → EReal) (y : FVec Ideal S512x1024 .f32) (i : S512x1024.Idx) (n : ℕ) : Prop :=
  ∀ k : Fin 15, b k < y i ↔ k.val < n

/-- A comparison with one boundary, as a bit. -/
theorem Below.bit (h : Below b y i n) (k : Fin 15) :
    BitVec.ofBool (decide (b k < y i)) = BitVec.ofBool (decide (k.val < n)) := by
  by_cases hk : k.val < n
  · rw [decide_eq_true hk, decide_eq_true ((h k).2 hk)]
  · rw [decide_eq_false hk, decide_eq_false fun h' => hk ((h k).1 h')]

/-- The first bit. -/
theorem bit3_apply (h : Below b y i n) : bit3 (F := Ideal) b y i = BitVec.ofBool (decide (7 < n)) := h.bit 7

/-- A comparison with one of two boundaries. -/
theorem select_bit (h : Below b y i n) (m : BitVec 1) (j k : Fin 15) :
    BitVec.ofBool (decide (Scalar.select m (b j) (b k) < y i))
      = BitVec.ofBool (decide ((if m = 1 then j.val else k.val) < n)) := by
  unfold Scalar.select
  split
  · exact h.bit j
  · exact h.bit k

/-- The second bit. -/
theorem bit2_apply (h : Below b y i n) :
    bit2 (F := Ideal) b y i = BitVec.ofBool (decide ((if bit3 (F := Ideal) b y i = 1 then 11 else 3) < n)) :=
  select_bit h (bit3 (F := Ideal) b y i) 11 3

/-- The third bit. -/
theorem bit1_apply (h : Below b y i n) :
    bit1 (F := Ideal) b y i = BitVec.ofBool (decide ((if bit3 (F := Ideal) b y i = 1
      then if bit2 (F := Ideal) b y i = 1 then 13 else 9
      else if bit2 (F := Ideal) b y i = 1 then 5 else 1) < n)) := by
  show BitVec.ofBool (decide (Scalar.select (bit3 (F := Ideal) b y i)
    (Scalar.select (bit2 (F := Ideal) b y i) (b 13) (b 9))
    (Scalar.select (bit2 (F := Ideal) b y i) (b 5) (b 1)) < y i)) = _
  by_cases h3 : bit3 (F := Ideal) b y i = 1
  · rw [if_pos h3, Scalar.select, if_pos h3]
    exact select_bit h _ 13 9
  · rw [if_neg h3, Scalar.select, if_neg h3]
    exact select_bit h _ 5 1

/-- The three upper bits are those of the count. -/
theorem bits (h : Below b y i n) (hn : n < 16) :
    bit3 (F := Ideal) b y i = BitVec.ofBool (n.testBit 3) ∧ bit2 (F := Ideal) b y i = BitVec.ofBool (n.testBit 2) ∧
      bit1 (F := Ideal) b y i = BitVec.ofBool (n.testBit 1) := by
  have e3 := bit3_apply h
  have e2 := bit2_apply h
  have e1 := bit1_apply h
  rw [e3] at e2 e1
  rw [e2] at e1
  rw [e3, e2, e1]
  clear e1 e2 e3 h
  interval_cases n <;> decide

/-- The choice among eight values is by half the count. -/
theorem choose_apply (h : Below b y i n) (hn : n < 16) (w : Fin 8 → EReal) :
    choose (F := Ideal) b y w i = w ⟨n / 2, by omega⟩ := by
  obtain ⟨e3, e2, e1⟩ := bits h hn
  show Scalar.select (bit3 (F := Ideal) b y i)
    (Scalar.select (bit2 (F := Ideal) b y i)
      (Scalar.select (bit1 (F := Ideal) b y i) (w 7) (w 6)) (Scalar.select (bit1 (F := Ideal) b y i) (w 5) (w 4)))
    (Scalar.select (bit2 (F := Ideal) b y i)
      (Scalar.select (bit1 (F := Ideal) b y i) (w 3) (w 2)) (Scalar.select (bit1 (F := Ideal) b y i) (w 1) (w 0))) = _
  rw [e3, e2, e1]
  clear e1 e2 e3 h
  interval_cases n <;> rfl

/-- The last bit. -/
theorem bit0_apply (h : Below b y i n) (hn : n < 16) : bit0 (F := Ideal) b y i = BitVec.ofBool (n.testBit 0) := by
  show BitVec.ofBool (decide (choose (F := Ideal) b y (fun k => b ⟨2 * k.val, by omega⟩) i < y i)) = _
  rw [choose_apply h hn, h.bit]
  clear h
  interval_cases n <;> rfl

/-- The index is the count. -/
theorem number_apply (h : Below b y i n) (hn : n < 16) : number (F := Ideal) b y i = BitVec.ofNat 32 n := by
  obtain ⟨e3, e2, e1⟩ := bits h hn
  have e0 := bit0_apply h hn
  show (Scalar.select (bit3 (F := Ideal) b y i) 8#32 0#32 + Scalar.select (bit2 (F := Ideal) b y i) 4#32 0#32)
    + (Scalar.select (bit1 (F := Ideal) b y i) 2#32 0#32 + Scalar.select (bit0 (F := Ideal) b y i) 1#32 0#32) = _
  rw [e3, e2, e1, e0]
  clear e0 e1 e2 e3 h
  interval_cases n <;> decide

/-- The quantised entry is the centroid of the count. -/
theorem quantised_apply (h : Below b y i n) (hn : n < 16) {c : Fin 16 → EReal} {C B : ℕ → ℝ}
    (hc : ∀ k, c k = (C k : EReal)) (hb : ∀ k, b k = (B k : EReal))
    (hB : ∀ k < 15, B k = 1 / 2 * (C k + C (k + 1))) :
    quantised (F := Ideal) c b y i = (C n : EReal) := by
  have e0 := bit0_apply h hn
  have eg : gap (F := Ideal) c b y i = (((C (2 * (n / 2) + 1) - C (2 * (n / 2))) * (1 / 2) : ℝ) : EReal) := by
    refine (choose_apply h hn _).trans ?_
    show (c _ - c _) * Ideal.ofBits .f32 0x3F000000#32 = _
    rw [Consts.f32_half, hc, hc, ← EReal.coe_sub, ← EReal.coe_mul]
  have el : last (F := Ideal) b y i = ((1 / 2 * (C (2 * (n / 2)) + C (2 * (n / 2) + 1)) : ℝ) : EReal) := by
    refine (choose_apply h hn _).trans ?_
    rw [hb, hB _ (by simp only; omega)]
  have ez : Ideal.ofBits .f32 0x00000000#32 = ((0 : ℝ) : EReal) := by
    simp [Ideal.ofBits, Ideal.ieee]
  show last (F := Ideal) b y i + Scalar.select (bit0 (F := Ideal) b y i) (gap (F := Ideal) c b y i)
    (Ideal.ofBits .f32 0x00000000#32 - gap (F := Ideal) c b y i) = _
  rw [el, eg, e0, ez, ← EReal.coe_sub, Scalar.select]
  rcases Nat.mod_two_eq_zero_or_one n with h2 | h2
  · have hr : 2 * (n / 2) = n := by omega
    have ht : n.testBit 0 = false := by simp [h2]
    rw [ht, if_neg (by decide), ← EReal.coe_add, hr]
    exact congrArg _ (by ring)
  · have hr : 2 * (n / 2) + 1 = n := by omega
    have ht : n.testBit 0 = true := by simp [h2]
    rw [ht, if_pos (by decide), ← EReal.coe_add, hr]
    exact congrArg _ (by ring)

/-- Midpoints of ascending numbers ascend. -/
theorem ascending_midpoints {C B : ℕ → ℝ} (hC : ∀ k < 15, C k ≤ C (k + 1))
    (hB : ∀ k < 15, B k = 1 / 2 * (C k + C (k + 1))) : Ascending B := by
  intro i j hij
  induction j, hij using Nat.le_induction with
  | base => exact fun _ => le_rfl
  | succ j _ ih =>
    intro hj
    refine (ih (by omega)).trans ?_
    rw [hB j (by omega), hB (j + 1) hj]
    have h0 := hC j (by omega)
    have h1 := hC (j + 1) hj
    linarith

end Cert.Half

end
-- ==== Proof.MatrixWords.lean ====
/- The words of the kernel's constant matrix, compared with the signs of seven butterfly stages sixteen rows at a time. -/
module

public import proofs.«01_k».proof.KernelIdeal
public import proofs.«01_k».proof.Proof.Hadamard

@[expose] public section

set_option maxRecDepth 16384

noncomputable section

namespace Cert.Matrix

open Cert.KernelIdeal

/-- The word that stands for `1/32` or `-1/32`, as the sign of entry `(i, j)` says. -/
def word (i j : ℕ) : BitVec 16 := if Hadamard.sgn 7 i j = 1 then 0x3D00#16 else 0xBD00#16

/-- Rows 0 to 15 of the constant hold the words of the signs. -/
theorem words0 : ∀ i : Fin 16, ∀ j : Fin 128, lit0t (128 * (0 + i) + j) = word (0 + i) j := by
  decide +kernel

/-- Rows 16 to 31 of the constant hold the words of the signs. -/
theorem words1 : ∀ i : Fin 16, ∀ j : Fin 128, lit0t (128 * (16 + i) + j) = word (16 + i) j := by
  decide +kernel

/-- Rows 32 to 47 of the constant hold the words of the signs. -/
theorem words2 : ∀ i : Fin 16, ∀ j : Fin 128, lit0t (128 * (32 + i) + j) = word (32 + i) j := by
  decide +kernel

/-- Rows 48 to 63 of the constant hold the words of the signs. -/
theorem words3 : ∀ i : Fin 16, ∀ j : Fin 128, lit0t (128 * (48 + i) + j) = word (48 + i) j := by
  decide +kernel

/-- Rows 64 to 79 of the constant hold the words of the signs. -/
theorem words4 : ∀ i : Fin 16, ∀ j : Fin 128, lit0t (128 * (64 + i) + j) = word (64 + i) j := by
  decide +kernel

/-- Rows 80 to 95 of the constant hold the words of the signs. -/
theorem words5 : ∀ i : Fin 16, ∀ j : Fin 128, lit0t (128 * (80 + i) + j) = word (80 + i) j := by
  decide +kernel

/-- Rows 96 to 111 of the constant hold the words of the signs. -/
theorem words6 : ∀ i : Fin 16, ∀ j : Fin 128, lit0t (128 * (96 + i) + j) = word (96 + i) j := by
  decide +kernel

/-- Rows 112 to 127 of the constant hold the words of the signs. -/
theorem words7 : ∀ i : Fin 16, ∀ j : Fin 128, lit0t (128 * (112 + i) + j) = word (112 + i) j := by
  decide +kernel

/-- Every word of the constant is the word of its sign. -/
theorem words (i j : Fin 128) : lit0t (128 * i + j) = word i j := by
  have hi := i.isLt
  have key (k : ℕ) (h : ∀ a : Fin 16, ∀ b : Fin 128, lit0t (128 * (16 * k + a) + b) = word (16 * k + a) b)
      (hk : (i : ℕ) / 16 = k) : lit0t (128 * i + j) = word i j := by
    have e : 16 * k + (i : ℕ) % 16 = i := by omega
    have h' := h ⟨(i : ℕ) % 16, by omega⟩ j
    simp only [e] at h'
    exact h'
  have hd : (i : ℕ) / 16 < 8 := by omega
  generalize hk : (i : ℕ) / 16 = k at hd
  interval_cases k
  · exact key 0 words0 hk
  · exact key 1 words1 hk
  · exact key 2 words2 hk
  · exact key 3 words3 hk
  · exact key 4 words4 hk
  · exact key 5 words5 hk
  · exact key 6 words6 hk
  · exact key 7 words7 hk

end Cert.Matrix

end
-- ==== Proof.Matrix.lean ====
/- The kernel's constant matrix: entry `(i, j)` is the sign with which lane `i` enters lane `j` of seven butterfly
   stages, divided by 32. -/
module

public import proofs.«01_k».proof.KernelIdeal
public import proofs.«01_k».proof.Proof.MatrixWords
public import proofs.«01_k».proof.Proof.Consts
public import Idealize.ShloMosaic.Lib.Pointwise
public import Idealize.ShloMosaic.PureOps.Ideal

@[expose] public section

set_option maxRecDepth 16384

noncomputable section

namespace Cert.Matrix

open Idealize.ShloMosaic Idealize.ShloMosaic.TcCoe Idealize.SL.Sem
open Cert.KernelIdeal

/-- A sign is one or minus one. -/
theorem sgn_cases (n i j : ℕ) : Hadamard.sgn n i j = 1 ∨ Hadamard.sgn n i j = -1 := by
  induction n generalizing i j with
  | zero => exact Or.inl rfl
  | succ n ih =>
    rw [Hadamard.sgn]
    rcases ih (i % 2 ^ n) (j % 2 ^ n) with h | h <;> rw [h] <;> split <;> simp

/-- The constant matrix the kernel's host operation writes. -/
abbrev H : FVec Ideal S128x128 .bf16 := fun i => FloatOps.ofBits .bf16 (lit0 (S128x128.rowMajor i))

/-- Its entry at row `i` and column `j`. -/
theorem H_apply (i j : Fin 128) : H (ix2 i j) = (((Hadamard.sgn 7 i j : ℝ) * (1 / 32) : ℝ) : EReal) := by
  have hp : ((S128x128.rowMajor (ix2 i j)) : ℕ) = 128 * i + j := by
    rw [rowMajor_val2 _ 128 rfl]
    simp
    ring
  have hl : lit0 (S128x128.rowMajor (ix2 i j)) = lit0t (128 * i + j) := by rw [← hp]
  show Ideal.ofBits .bf16 (lit0 (S128x128.rowMajor (ix2 i j))) = _
  rw [hl, words i j, word]
  rcases sgn_cases 7 i j with h | h <;> rw [h]
  · rw [if_pos rfl, Consts.bf16_inv32]
    norm_num
  · rw [if_neg (by decide), Consts.bf16_neg_inv32]
    norm_num

end Cert.Matrix

end
-- ==== Proof.Rows.lean ====
/- What one half of the kernel's block computes, in reals: each operation read at row `r` and column `128 k + j`. -/
module

public import proofs.«01_k».proof.Proof.Quantiser
public import proofs.«01_k».proof.Proof.Matrix
public import Idealize.ShloMosaic.Lib.Pipeline.Value

@[expose] public section

set_option maxRecDepth 16384

noncomputable section

namespace Cert.Half

open Idealize.ShloMosaic Idealize.ShloMosaic.TcCoe Idealize.SL.Sem
open Cert.KernelIdeal Cert.KernelIdeal.Gen
open Cert.Hadamard (bfly sgn had had_ten had_ten')
open Cert.Reference (rot recon index count count_le)
open scoped BigOperators

/-- Column `j` of chunk `k`. -/
def col (k : Fin 8) (j : Fin 128) : Fin 1024 := ⟨128 * k + j, by omega⟩

/-- A column lies in one chunk. -/
theorem exists_col (p : Fin 1024) : ∃ k j, p = col k j :=
  ⟨⟨p / 128, by omega⟩, ⟨p % 128, by omega⟩, Fin.ext (Nat.div_add_mod p.val 128).symm⟩

/-- A chunk read at an entry. -/
theorem split_apply {φ : FTy} (v : FVec Ideal S512x1024 φ) (k : Fin 8) (r : Fin 512) (j : Fin 128) :
    split v k (ix2 r j) = v (ix2 r (col k j)) := by
  match k with
  | 0 | 1 | 2 | 3 | 4 | 5 | 6 | 7 =>
    simp only [split]
    refine extractStridedSlice_apply _ v _ (ix2 r j) _ fun b => ?_
    match b with
    | ⟨0, _⟩ => simp
    | ⟨1, _⟩ => simp [col]

/-- Joined chunks read at an entry. -/
theorem join_apply (p : Fin 8 → FVec Ideal S512x128 .f32) (k : Fin 8) (r : Fin 512) (j : Fin 128) :
    join p (ix2 r (col k j)) = p k (ix2 r j) := by
  match k with
  | ⟨k, hk⟩ =>
    unfold join
    refine concatenate_apply_piece (t := S512x1024) 1 _ _ _ k (by exact hk) S512x128 (p ⟨k, hk⟩) ?_ rfl (128 * k) ?_ (ix2 r j) ?_ ?_
    · interval_cases k <;> rfl
    · interval_cases k <;> rfl
    · intro b hb
      match b with
      | ⟨0, _⟩ => rfl
      | ⟨1, _⟩ => exact absurd rfl hb
    · rfl

/-- The butterflies across the chunks of reals. -/
theorem across_apply {p : Fin 8 → FVec Ideal S512x128 .f32} {f : ℕ → ℝ} {i : S512x128.Idx}
    (h : ∀ k, p k i = (f k : EReal)) (k : Fin 8) : across p k i = ((bfly k f : ℝ) : EReal) := by
  have h0 := h 0
  have h1 := h 1
  have h2 := h 2
  have h3 := h 3
  have h4 := h 4
  have h5 := h 5
  have h6 := h 6
  have h7 := h 7
  match k with
  | 0 | 1 | 2 | 3 | 4 | 5 | 6 | 7 =>
    simp only [across, addf_apply, subf_apply, h0, h1, h2, h3, h4, h5, h6, h7]
    rfl

/-- A sum of reals, read in the extended reals. -/
theorem coe_sum {ι : Type} (t : Finset ι) (f : ι → ℝ) : ∑ i ∈ t, (f i : EReal) = ((∑ i ∈ t, f i : ℝ) : EReal) := by
  classical
  induction t using Finset.induction_on with
  | empty => rfl
  | insert a t ha ih => rw [Finset.sum_insert ha, Finset.sum_insert ha, ih, EReal.coe_add]

/-- The product of a chunk of reals with the matrix. -/
theorem dot_apply {c : FVec Ideal S512x128 .bf16} {f : Fin 128 → ℝ} {r : Fin 512} (h : ∀ i, c (ix2 r i) = (f i : EReal))
    (j : Fin 128) : dot Matrix.H c (ix2 r j) = ((∑ i, f i * ((sgn 7 i j : ℝ) * (1 / 32)) : ℝ) : EReal) := by
  have e : dot Matrix.H c (ix2 r j) = ∑ i : Fin 128, c (ix2 r i) * Matrix.H (ix2 i j) := by
    unfold dot
    generalize Matrix.H = h
    pointwise []
  rw [e, ← coe_sum]
  exact Finset.sum_congr rfl fun i _ => by rw [h, Matrix.H_apply, ← EReal.coe_mul]

/-- Taken twice, of a chunk and of what its rounding left, the product is the same: nothing is left. -/
theorem dot2_apply {c : FVec Ideal S512x128 .f32} {f : Fin 128 → ℝ} {r : Fin 512} (h : ∀ i, c (ix2 r i) = (f i : EReal))
    (j : Fin 128) : dot2 Matrix.H c (ix2 r j) = ((∑ i, f i * ((sgn 7 i j : ℝ) * (1 / 32)) : ℝ) : EReal) := by
  unfold dot2
  rw [addf_apply, dot_apply (c := truncf .bf16 c bitsLt_bf16_f32) (f := f) h, dot_apply (f := fun _ => 0) fun i => ?_]
  · simp
  · show c (ix2 r i) - c (ix2 r i) = _
    rw [h, ← EReal.coe_sub, sub_self]

/-- The sign row read at an entry. -/
theorem signs_apply (s : FVec Ideal S1x1024 .f32) (r : Fin 512) (p : Fin 1024) :
    signs s (ix2 r p) = s (ix2 (0 : Fin 1) p) := by
  unfold signs
  pointwise []

variable {s : FVec Ideal S1x1024 .f32} {x : FVec Ideal S512x1024 .f32} {X S : ℕ → ℝ} {r : Fin 512} {n : ℕ}

/-- The rotated rows, in reals. -/
theorem rotated_apply (hs : ∀ p : Fin 1024, s (ix2 (0 : Fin 1) p) = (S p : EReal))
    (hx : ∀ p : Fin 1024, x (ix2 r p) = (X (1024 * n + p) : EReal)) (p : Fin 1024) :
    rotated Matrix.H s x (ix2 r p) = ((rot X S (1024 * n + p) : ℝ) : EReal) := by
  obtain ⟨k, j, rfl⟩ := exists_col p
  have hm (k : Fin 8) (j : Fin 128) : split (mulf x (signs s)) k (ix2 r j)
      = ((X (1024 * n + (128 * k + j)) * S ((1024 * n + (128 * k + j)) % 1024) : ℝ) : EReal) := by
    have e : (1024 * n + (128 * (k : ℕ) + j)) % 1024 = col k j := by
      rw [Nat.mul_add_mod]
      exact Nat.mod_eq_of_lt (col k j).isLt
    rw [split_apply, mulf_apply, signs_apply, hs, hx, e]
    exact (EReal.coe_mul _ _).symm
  have ha (i : Fin 128) := across_apply (i := ix2 r i)
    (f := fun k => X (1024 * n + (128 * k + i)) * S ((1024 * n + (128 * k + i)) % 1024)) (fun k => hm k i) k
  unfold rotated
  rw [join_apply, dot2_apply ha]
  refine congrArg _ ?_
  show _ = had 10 (fun q => X q * S (q % 1024)) (1024 * n + (128 * k + j)) * (1 / 32)
  rw [had_ten' _ n k j k.isLt j.isLt, Finset.sum_mul]
  exact Finset.sum_congr rfl fun i _ => by ring

/-- A factor common to eight values passes through the butterflies. -/
theorem bfly_mul (k : ℕ) (f : ℕ → ℝ) (a : ℝ) : bfly k (fun k' => f k' * a) = bfly k f * a := by
  unfold bfly
  split <;> ring

/-- The rows rotated back, in reals. -/
theorem restored_apply {q : FVec Ideal S512x1024 .bf16} {Q : ℕ → ℝ}
    (hs : ∀ p : Fin 1024, s (ix2 (0 : Fin 1) p) = (S p : EReal))
    (hq : ∀ p : Fin 1024, q (ix2 r p) = (Q (1024 * n + p) : EReal)) (p : Fin 1024) :
    restored Matrix.H s q (ix2 r p)
      = ((S ((1024 * n + p) % 1024) * (had 10 Q (1024 * n + p) * (1 / 32)) : ℝ) : EReal) := by
  obtain ⟨k, j, rfl⟩ := exists_col p
  have hd (k : Fin 8) : split (join fun k => dot Matrix.H (split q k)) k (ix2 r j)
      = (((∑ i : Fin 128, (sgn 7 i j : ℝ) * Q (1024 * n + (128 * (k : ℕ) + i))) * (1 / 32) : ℝ) : EReal) := by
    rw [split_apply, join_apply, dot_apply (f := fun i => Q (1024 * n + (128 * (k : ℕ) + i))) fun i => ?_]
    · rw [Finset.sum_mul]
      exact congrArg _ (Finset.sum_congr rfl fun i _ => by ring)
    · rw [split_apply, hq]
      rfl
  have e : (1024 * n + (col k j : ℕ)) % 1024 = col k j := by
    rw [Nat.mul_add_mod]
    exact Nat.mod_eq_of_lt (col k j).isLt
  unfold restored
  rw [mulf_apply, join_apply, signs_apply, hs, e, across_apply
    (f := fun k => (∑ i : Fin 128, (sgn 7 i j : ℝ) * Q (1024 * n + (128 * k + i))) * (1 / 32)) hd, bfly_mul]
  refine (EReal.coe_mul _ _).symm.trans (congrArg _ ?_)
  have h10 := had_ten Q n k j k.isLt j.isLt
  rw [← h10]
  exact mul_comm _ _

variable {c : Fin 16 → EReal} {b : Fin 15 → EReal} {C B : ℕ → ℝ}

/-- How the comparisons of a rotated entry come out. -/
theorem below (hs : ∀ p : Fin 1024, s (ix2 (0 : Fin 1) p) = (S p : EReal))
    (hx : ∀ p : Fin 1024, x (ix2 r p) = (X (1024 * n + p) : EReal)) (hb : ∀ k, b k = (B k : EReal))
    (hB : Ascending B) (p : Fin 1024) :
    Below b (rotated Matrix.H s x) (ix2 r p) (index X S B (1024 * n + p)) := fun k => by
  rw [rotated_apply hs hx, hb, EReal.coe_lt_coe_iff]
  exact lt_count hB _ k

/-- The index the kernel stores. -/
theorem number_rows (hs : ∀ p : Fin 1024, s (ix2 (0 : Fin 1) p) = (S p : EReal))
    (hx : ∀ p : Fin 1024, x (ix2 r p) = (X (1024 * n + p) : EReal)) (hb : ∀ k, b k = (B k : EReal))
    (hB : Ascending B) (p : Fin 1024) :
    number (F := Ideal) b (rotated Matrix.H s x) (ix2 r p) = BitVec.ofNat 32 (index X S B (1024 * n + p)) :=
  number_apply (below hs hx hb hB p) (Nat.lt_succ_of_le (count_le B _))

/-- The entry the kernel stores. -/
theorem restored_rows (hs : ∀ p : Fin 1024, s (ix2 (0 : Fin 1) p) = (S p : EReal))
    (hx : ∀ p : Fin 1024, x (ix2 r p) = (X (1024 * n + p) : EReal)) (hc : ∀ k, c k = (C k : EReal))
    (hb : ∀ k, b k = (B k : EReal)) (hC : ∀ k < 15, C k ≤ C (k + 1))
    (hB : ∀ k < 15, B k = 1 / 2 * (C k + C (k + 1))) (p : Fin 1024) :
    restored Matrix.H s (truncf .bf16 (quantised (F := Ideal) c b (rotated Matrix.H s x)) bitsLt_bf16_f32) (ix2 r p)
      = ((recon X S C B (1024 * n + p) : ℝ) : EReal) :=
  restored_apply (Q := fun q => C (index X S B q)) hs (fun p => quantised_apply
    (below hs hx hb (ascending_midpoints hC hB) p) (Nat.lt_succ_of_le (count_le B _)) hc hb hB) p

end Cert.Half

end
-- ==== Proof.KernelValue.lean ====
/- What the kernel leaves in its two result arrays: at every position the reconstructed entry and the index that the
   arguments' reals give there. -/
module

public import proofs.«01_k».proof.Proof.Gen.KernelIdeal.Value
public import proofs.«01_k».proof.Proof.Pieces
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen
open Cert.Stages (Flat)

variable (m : (ℓ : Loc nD τ sig) → Buf (Elt Ideal) ℓ)

/-- The blocks at a grid point: rows `1024 t` on of the large arrays, the whole of the others. -/
theorem idx : ∀ t : Fin cfg0.N, win0_0.index t = ![t.val, 0] ∧ win0_1.index t = ![0, 0] ∧ win0_2.index t = ![0, 0] ∧
    win0_3.index t = ![0] ∧ win0_4.index t = ![0] ∧ win0_5.index t = ![t.val, 0] ∧ win0_6.index t = ![t.val, 0] :=
  (by decide +kernel : ∀ t : Fin grid0.N, _)

/-- There are 64 grid points. -/
theorem points (t : Fin cfg0.N) : t.val < 64 := t.isLt

/-- The block of the input. -/
theorem block_x (c : Dev nD) (t : Fin cfg0.N) (r p : Fin 1024) :
    iblk m c 0 t (ix2 r p) = m ((c.tc : Thread nD τ).loc main_arg0)
      (ix2 (⟨1024 * t.val + r, by have := points t; omega⟩ : Fin 65536) p) := by
  blk_ext [iblk, V, idx t]

/-- The sign row. -/
theorem block_s (c : Dev nD) (t : Fin cfg0.N) (p : Fin 1024) :
    iblk m c 1 t (ix2 (0 : Fin 1) p) = m ((c.tc : Thread nD τ).loc main_arg1) (ix1 p) := by
  blk_simp [iblk]
  entry_read
  rw [show ((View.whole main_call0_v0).slice (win0_1.rect t)).emb (ix2 (0 : Fin 1) p) = ix2 (0 : Fin 1) p by
    blk_ext [idx t]]
  refine shapeCast_apply _ _ _ (ix1 p) ?_
  show _ = ((S1x1024.rowMajor (ix2 (0 : Fin 1) p) : Fin _) : ℕ)
  rw [rowMajor_val1, rowMajor_val2 _ 1024 rfl]
  simp

/-- The matrix. -/
theorem block_h (c : Dev nD) (t : Fin cfg0.N) : iblk m c 2 t = Matrix.H := by
  funext i
  blk_simp [iblk]
  entry_read
  exact congrArg Matrix.H (show ((View.whole main_call0_cst).slice (win0_2.rect t)).emb i = i by blk_ext [idx t])

/-- The centroids. -/
theorem block_c (c : Dev nD) (t : Fin cfg0.N) : iblk m c 3 t = m ((c.tc : Thread nD τ).loc main_arg2) := by
  blk_ext! [iblk, V, idx t]

/-- The boundaries. -/
theorem block_b (c : Dev nD) (t : Fin cfg0.N) : iblk m c 4 t = m ((c.tc : Thread nD τ).loc main_arg3) := by
  blk_ext! [iblk, V, idx t]

/-- A scalar read of the centroids. -/
theorem entry16_apply {α : Type} (A : S16.Idx → α) (k : Fin 16) : Half.entry16 A k = A (ix1 k) :=
  congrArg A (funext fun b => by match b with | ⟨0, _⟩ => exact Fin.ext (by rw [Rect.idx_unit_val]; simp [Shape.Idx.first]))

/-- A scalar read of the boundaries. -/
theorem entry15_apply {α : Type} (A : S15.Idx → α) (k : Fin 15) : Half.entry15 A k = A (ix1 k) :=
  congrArg A (funext fun b => by match b with | ⟨0, _⟩ => exact Fin.ext (by rw [Rect.idx_unit_val]; simp [Shape.Idx.first]))

/-- The entries of one half of a block of the input. -/
theorem half_x (c : Dev nD) (t : Fin cfg0.N) (o : ℕ) (ho : o + 512 ≤ 1024)
    (inb : ∀ a, (![o, 0] : Fin 2 → ℕ) a + (![512, 1024] : Fin 2 → ℕ) a ≤ S1024x1024.size a) (r : Fin 512) (p : Fin 1024) :
    View.ld (iblk m c 0 t) (Rect.unit ![o, 0] ![512, 1024] inb) (ix2 r p) = m ((c.tc : Thread nD τ).loc main_arg0)
      (ix2 (⟨1024 * t.val + (o + r), by have := points t; omega⟩ : Fin 65536) p) := by
  refine Eq.trans ?_ (block_x m c t ⟨o + r, by omega⟩ p)
  refine congrArg (iblk m c 0 t) (funext fun b => ?_)
  match b with
  | ⟨0, _⟩ => exact Fin.ext (by rw [Rect.idx_unit_val]; simp)
  | ⟨1, _⟩ => exact Fin.ext (by rw [Rect.idx_unit_val]; simp)

/-- The arguments on a device hold the reals `X`, `S`, `C` and `B`; the centroids ascend and the boundaries are their
    midpoints. -/
structure Holds (d : Dev nD) (X S C B : ℕ → ℝ) : Prop where
  x : Flat (s := S65536x1024) (m ((d.tc : Thread nD τ).loc main_arg0)) X
  s : Flat (s := S1024) (m ((d.tc : Thread nD τ).loc main_arg1)) S
  c : Flat (s := S16) (m ((d.tc : Thread nD τ).loc main_arg2)) C
  b : Flat (s := S15) (m ((d.tc : Thread nD τ).loc main_arg3)) B
  ascending : ∀ k < 15, C k ≤ C (k + 1)
  midpoint : ∀ k < 15, B k = 1 / 2 * (C k + C (k + 1))

variable {m} {c : Dev nD} {X S C B : ℕ → ℝ}

/-- The sign row, in reals. -/
theorem Holds.row (H : Holds m c X S C B) (t : Fin cfg0.N) (p : Fin 1024) :
    iblk m c 1 t (ix2 (0 : Fin 1) p) = (S p : EReal) := by
  rw [block_s, H.s, rowMajor_val1]
  rfl

/-- The centroids, in reals. -/
theorem Holds.centroid (H : Holds m c X S C B) (t : Fin cfg0.N) (k : Fin 16) :
    Half.entry16 (iblk m c 3 t) k = (C k : EReal) := by
  rw [block_c, entry16_apply, H.c, rowMajor_val1]
  rfl

/-- The boundaries, in reals. -/
theorem Holds.boundary (H : Holds m c X S C B) (t : Fin cfg0.N) (k : Fin 15) :
    Half.entry15 (iblk m c 4 t) k = (B k : EReal) := by
  rw [block_b, entry15_apply, H.b, rowMajor_val1]
  rfl

/-- One half of a block of the input, in reals. -/
theorem Holds.rows (H : Holds m c X S C B) (t : Fin cfg0.N) (o : ℕ) (ho : o + 512 ≤ 1024)
    (inb : ∀ a, (![o, 0] : Fin 2 → ℕ) a + (![512, 1024] : Fin 2 → ℕ) a ≤ S1024x1024.size a) (r : Fin 512) (p : Fin 1024) :
    View.ld (iblk m c 0 t) (Rect.unit ![o, 0] ![512, 1024] inb) (ix2 r p)
      = (X (1024 * (1024 * t.val + (o + r)) + p) : EReal) := by
  rw [half_x m c t o ho, H.x, rowMajor_val2 _ 1024 rfl]
  exact congrArg (fun q => (X q : EReal)) (by simp; ring)

/-- The reconstruction, as an array. -/
def G5 (X S C B : ℕ → ℝ) : FVec Ideal S65536x1024 .f32 := fun i =>
  ((Reference.recon X S C B (1024 * (i 0).val + (i 1).val) : ℝ) : EReal)

/-- The indices, as an array. -/
def G6 (X S B : ℕ → ℝ) : IVec S65536x1024 32 := fun i =>
  BitVec.ofNat 32 (Reference.index X S B (1024 * (i 0).val + (i 1).val))

/-- What the kernel stores of one half of a block in the first result. -/
theorem stored5 (H : Holds m c X S C B) (t : Fin cfg0.N) (o : ℕ) (ho : o + 512 ≤ 1024)
    (inb : ∀ a, (![o, 0] : Fin 2 → ℕ) a + (![512, 1024] : Fin 2 → ℕ) a ≤ S1024x1024.size a)
    (x : S512x1024.Idx) (i : S65536x1024.Idx) (h0 : (i 0).val = 1024 * t.val + (o + (x 0).val)) (h1 : (i 1).val = (x 1).val) :
    Half.restored (F := Ideal) (iblk m c 2 t) (iblk m c 1 t)
      (truncf .bf16 (Half.quantised (F := Ideal) (Half.entry16 (iblk m c 3 t)) (Half.entry15 (iblk m c 4 t))
        (Half.rotated (F := Ideal) (iblk m c 2 t) (iblk m c 1 t)
          (View.ld (iblk m c 0 t) (Rect.unit ![o, 0] ![512, 1024] inb)))) bitsLt_bf16_f32) x
      = G5 X S C B i := by
  obtain ⟨r, p, rfl⟩ : ∃ (r : Fin 512) (p : Fin 1024), x = ix2 r p :=
    ⟨x 0, x 1, (ValueIdx.eq_ix2 x).trans (ix2_eq_valueIdx _ _).symm⟩
  rw [block_h, Half.restored_rows (n := 1024 * t.val + (o + r)) (H.row t) (H.rows t o ho inb r) (H.centroid t)
    (H.boundary t) H.ascending H.midpoint p, G5, h0, h1]
  rfl

/-- What the kernel stores of one half of a block in the second result. -/
theorem stored6 (H : Holds m c X S C B) (t : Fin cfg0.N) (o : ℕ) (ho : o + 512 ≤ 1024)
    (inb : ∀ a, (![o, 0] : Fin 2 → ℕ) a + (![512, 1024] : Fin 2 → ℕ) a ≤ S1024x1024.size a)
    (x : S512x1024.Idx) (i : S65536x1024.Idx) (h0 : (i 0).val = 1024 * t.val + (o + (x 0).val)) (h1 : (i 1).val = (x 1).val) :
    Half.number (F := Ideal) (Half.entry15 (iblk m c 4 t)) (Half.rotated (F := Ideal) (iblk m c 2 t) (iblk m c 1 t)
        (View.ld (iblk m c 0 t) (Rect.unit ![o, 0] ![512, 1024] inb))) x
      = G6 X S B i := by
  obtain ⟨r, p, rfl⟩ : ∃ (r : Fin 512) (p : Fin 1024), x = ix2 r p :=
    ⟨x 0, x 1, (ValueIdx.eq_ix2 x).trans (ix2_eq_valueIdx _ _).symm⟩
  rw [block_h, Half.number_rows (n := 1024 * t.val + (o + r)) (H.row t) (H.rows t o ho inb r)
    (H.boundary t) (Half.ascending_midpoints H.ascending H.midpoint) p, G6, h0, h1]
  rfl

/-- The first result after the run. -/
theorem final5 (H : Holds m c X S C B) : (dats m 0 c).arrAt 5 (cfgs 0).N = G5 X S C B := by
  refine (dats m 0 c).arrAt_eq_of_covers 5 _ (by decide +kernel) fun t hf y => ?_
  have hi (h : (y 0).val < 1024) : ((((View.whole main_v0_0).slice (win0_5.rect t)).emb y) 0).val = 1024 * t.val + (y 0).val ∧
      ((((View.whole main_v0_0).slice (win0_5.rect t)).emb y) 1).val = (y 1).val := by
    constructor <;> blk_simp [idx t] <;> omega
  blk_simp
  rw [after0_5]
  unfold Gen.outsAt0
  frame_out
  canon_tiles x h
  case piece1 =>
    rw [Half.upper_rotated, Half.upper_restored]
    refine (congrFun (congrArg (Half.restored _ _) (Half.upper_quantised (F := Ideal) (Half.entry16 (iblk m c 3 t))
      (Half.entry15 (iblk m c 4 t)) _)) x).trans ?_
    exact stored5 H t 0 (by omega) _ x _ (by rw [(hi (by omega)).1]; omega) (by rw [(hi (by omega)).2]; omega)
  case piece0 =>
    rw [Half.lower_rotated, Half.lower_restored]
    refine (congrFun (congrArg (fun q => Half.restored _ _ (truncf .bf16 q bitsLt_bf16_f32))
      (Half.lower_quantised (F := Ideal) (Half.entry16 (iblk m c 3 t)) (Half.entry15 (iblk m c 4 t)) _)) x).trans ?_
    exact stored5 H t 512 (by omega) _ x _ (by rw [(hi (by omega)).1]; omega) (by rw [(hi (by omega)).2]; omega)

/-- The second result after the run. -/
theorem final6 (H : Holds m c X S C B) : (dats m 0 c).arrAt 6 (cfgs 0).N = G6 X S B := by
  refine (dats m 0 c).arrAt_eq_of_covers 6 _ (by decide +kernel) fun t hf y => ?_
  have hi (h : (y 0).val < 1024) : ((((View.whole main_v0_1).slice (win0_6.rect t)).emb y) 0).val = 1024 * t.val + (y 0).val ∧
      ((((View.whole main_v0_1).slice (win0_6.rect t)).emb y) 1).val = (y 1).val := by
    constructor <;> blk_simp [idx t] <;> omega
  blk_simp
  rw [after0_6]
  unfold Gen.outsAt0
  frame_out
  canon_tiles x h
  case piece1 =>
    rw [Half.upper_rotated]
    refine (congrFun (Half.upper_number (F := Ideal) (Half.entry15 (iblk m c 4 t)) _) x).trans ?_
    exact stored6 H t 0 (by omega) _ x _ (by rw [(hi (by omega)).1]; omega) (by rw [(hi (by omega)).2]; omega)
  case piece0 =>
    rw [Half.lower_rotated]
    refine (congrFun (Half.lower_number (F := Ideal) (Half.entry15 (iblk m c 4 t)) _) x).trans ?_
    exact stored6 H t 512 (by omega) _ x _ (by rw [(hi (by omega)).1]; omega) (by rw [(hi (by omega)).2]; omega)

end Cert.KernelValue

end
-- ==== Proof.Precondition.lean ====
/- What the precondition says of the arrays: all entries are reals, the centroids ascend, the boundaries are midpoints. -/
module

public import proofs.«01_k».proof.Pre_codebook
public import proofs.«01_k».proof.Proof.Consts
public import proofs.«01_k».proof.Proof.Stages
public import Idealize.ShloMosaic.Lib.ReduceAll
public import Idealize.ShloMosaic.Lib.Pipeline.Value

@[expose] public section

noncomputable section

namespace Cert.Precondition

open Idealize.ShloMosaic Idealize.ShloMosaic.TcCoe Idealize.SL.Sem
open Cert.Pre_codebook Cert.Pre_codebook.Facts Cert.Stages

/-- The reals at the row-major positions of an array, zero past its end. -/
def reals {s : Shape} (A : FVec Ideal s .f32) (p : ℕ) : ℝ :=
  if h : p < s.numel then (A (s.rowMajor.symm ⟨p, h⟩)).toReal else 0

/-- An array whose entries are below infinity in absolute value holds its reals. -/
theorem flat_reals {s : Shape} (A : FVec Ideal s .f32) (hA : ∀ i, max (A i) (-(A i)) < (⊤ : EReal)) : Flat A (reals A) := fun i => by
  have h := (s.rowMajor i).isLt
  have e : reals A (s.rowMajor i) = (A i).toReal := by
    rw [reals, dif_pos h]
    simp
  have h' := max_lt_iff.1 (hA i)
  rw [e, EReal.coe_toReal (ne_of_lt h'.1) (fun hb => by simp [hb] at h')]

/-- A comparison bit that is one. -/
theorem of_bit {p : Prop} [Decidable p] (h : BitVec.ofBool (decide p) = 1#1) : p := by
  by_contra hp
  rw [decide_eq_false hp] at h
  exact absurd h (by decide)

/-- Both operands of an `and` that is one are one. -/
theorem and_bits {a b : BitVec 1} (h : a &&& b = 1#1) : a = 1#1 ∧ b = 1#1 := by
  revert a b
  decide

/-- What the precondition says, as reals. -/
structure Codebook (X : FVec Ideal S65536x1024 .f32) (S : FVec Ideal S1024 .f32) (C : FVec Ideal S16 .f32)
    (B : FVec Ideal S15 .f32) : Prop where
  x : Flat X (reals X)
  s : Flat S (reals S)
  c : Flat C (reals C)
  b : Flat B (reals B)
  ascending : ∀ k < 15, reals C k ≤ reals C (k + 1)
  midpoint : ∀ k < 15, reals B k = 1 / 2 * (reals C k + reals C (k + 1))

variable [Cert.Pre_codebook.Facts]

/-- The precondition, decoded. -/
theorem codebook_of_fn {X : FVec Ideal S65536x1024 .f32} {S : FVec Ideal S1024 .f32} {C : FVec Ideal S16 .f32}
    {B : FVec Ideal S15 .f32} (h : Cert.Pre_codebook.fn (F := Ideal) X S C B = fun _ => 1#1) : Codebook X S C B := by
  have h0 := congrFun h ix0
  unfold Cert.Pre_codebook.fn Cert.Pre_codebook.fn_part1 at h0
  obtain ⟨h0, hmid⟩ := and_bits h0
  obtain ⟨h0, hasc⟩ := and_bits h0
  obtain ⟨h0, hc⟩ := and_bits h0
  obtain ⟨hx, hs⟩ := and_bits h0
  haveI : Subsingleton S_.Idx := ⟨fun a b => funext fun d => d.elim0⟩
  have fin {s : Shape} (A : FVec Ideal s .f32) (hb : S_.BroadcastsInDim s (![] : Fin 0 → Fin s.rank))
      (e : ∀ i, cmpf .olt (Host.absf A) (broadcastInDim s ![] hb (constant S_ .f32 0x7F800000#32)) i = 1#1) :
      Flat A (reals A) := by
    refine flat_reals A fun i => ?_
    have e' : max (A i) (-(A i)) < Ideal.ofBits .f32 0x7F800000#32 := of_bit (e i)
    rwa [Consts.f32_inf] at e'
  have fx := fin X _ (Host.reduce_andi_all _ _ _ _ _ hx)
  have fs := fin S _ (Host.reduce_andi_all _ _ _ _ _ hs)
  have fc := fin C _ (Host.reduce_andi_all _ _ _ _ _ hc)
  have lo (k : Fin 15) : extractStridedSlice S15 ![0] C slices_S16_S15_0 (ix1 k) = ((reals C k : ℝ) : EReal) := by
    rw [extractStridedSlice_apply _ C _ (ix1 k) (ix1 (⟨k, by omega⟩ : Fin 16))
      (fun b => by match b with | ⟨0, _⟩ => simp), fc, rowMajor_val1]
    rfl
  have hi (k : Fin 15) : extractStridedSlice S15 ![1] C slices_S16_S15_1 (ix1 k) = ((reals C (k + 1) : ℝ) : EReal) := by
    rw [extractStridedSlice_apply _ C _ (ix1 k) (ix1 (⟨k + 1, by omega⟩ : Fin 16))
      (fun b => by match b with | ⟨0, _⟩ => simp [Nat.add_comm]), fc, rowMajor_val1]
    rfl
  have mid (k : Fin 15) : B (ix1 k) = ((1 / 2 * (reals C k + reals C (k + 1)) : ℝ) : EReal) := by
    have e : B (ix1 k) = Ideal.ofBits .f32 0x3F000000#32
        * (extractStridedSlice S15 ![0] C slices_S16_S15_0 (ix1 k) + extractStridedSlice S15 ![1] C slices_S16_S15_1 (ix1 k)) :=
      of_bit (Host.reduce_andi_all _ _ _ _ _ hmid (ix1 k))
    rw [e, lo, hi, Consts.f32_half, ← EReal.coe_add, ← EReal.coe_mul]
  have rb (k : Fin 15) : reals B k = 1 / 2 * (reals C k + reals C (k + 1)) := by
    have e : reals B k = (B (ix1 k)).toReal := by
      have hk : (k : ℕ) = S15.rowMajor (ix1 k) := by rw [rowMajor_val1]; rfl
      rw [reals, dif_pos (by rw [hk]; exact (S15.rowMajor (ix1 k)).isLt)]
      exact congrArg (fun i => (B i).toReal) ((Equiv.symm_apply_eq _).2 (Fin.ext hk))
    rw [e, mid, EReal.toReal_coe]
  refine ⟨fx, fs, fc, fun i => ?_, fun k hk => ?_, fun k hk => rb ⟨k, hk⟩⟩
  · obtain ⟨k, rfl⟩ : ∃ k : Fin 15, i = ix1 k := ⟨i 0, (ValueIdx.eq_ix1 i).trans (ix1_eq_valueIdx _).symm⟩
    rw [mid, rowMajor_val1]
    exact congrArg _ (rb k).symm
  · have e : extractStridedSlice S15 ![0] C slices_S16_S15_0 (ix1 (⟨k, hk⟩ : Fin 15))
        ≤ extractStridedSlice S15 ![1] C slices_S16_S15_1 (ix1 (⟨k, hk⟩ : Fin 15)) :=
      of_bit (Host.reduce_andi_all _ _ _ _ _ hasc (ix1 (⟨k, hk⟩ : Fin 15)))
    rw [lo, hi] at e
    exact EReal.coe_le_coe_iff.1 e

end Cert.Precondition

end
-- ==== Proof.Algebraic.lean ====
/- The kernel's two results and the reference's, as the same arrays. -/
module

public import proofs.«01_k».proof.Defs
public import proofs.«01_k».proof.Proof.KernelValue
public import proofs.«01_k».proof.Proof.Reference
public import proofs.«01_k».proof.Proof.Precondition
public import proofs.«01_k».proof.Proof.Gen.ReferenceIdeal.Run
public import Idealize.ShloMosaic.Lib.Pointwise

@[expose] public section

noncomputable section

namespace Cert.Algebraic

open Idealize.ShloMosaic Idealize.ShloMosaic.TcCoe Idealize.SL.Sem
open Cert.Stages (Flat)
open Cert.Precondition (reals codebook_of_fn)

/-- A flat array of the results' shape holds its reals row by row. -/
theorem array_eq {A : FVec Ideal Cert.KernelIdeal.S65536x1024 .f32} {X S C B : ℕ → ℝ} (h : Flat A (Cert.Reference.recon X S C B)) :
    A = Cert.KernelValue.G5 X S C B := funext fun i => by
  rw [h i, ← ix2_eta i, rowMajor_val2 _ 1024 rfl, Nat.mul_comm]
  rfl

variable [Cert.Pre_codebook.Facts]

/-- Under the precondition the kernel's arguments on a device hold their reals. -/
theorem kernel_holds (m : (ℓ : Loc Cert.KernelIdeal.nD Cert.KernelIdeal.τ Cert.KernelIdeal.sig) → Buf (Elt Ideal) ℓ)
    (hm : Cert.Pre_KernelIdeal_codebook m) (c : Dev Cert.KernelIdeal.nD) :
    Cert.KernelValue.Holds m c
      (reals (s := Cert.KernelIdeal.S65536x1024) (m ((c.tc : Thread Cert.KernelIdeal.nD Cert.KernelIdeal.τ).loc Cert.KernelIdeal.main_arg0)))
      (reals (s := Cert.KernelIdeal.S1024) (m ((c.tc : Thread Cert.KernelIdeal.nD Cert.KernelIdeal.τ).loc Cert.KernelIdeal.main_arg1)))
      (reals (s := Cert.KernelIdeal.S16) (m ((c.tc : Thread Cert.KernelIdeal.nD Cert.KernelIdeal.τ).loc Cert.KernelIdeal.main_arg2)))
      (reals (s := Cert.KernelIdeal.S15) (m ((c.tc : Thread Cert.KernelIdeal.nD Cert.KernelIdeal.τ).loc Cert.KernelIdeal.main_arg3))) :=
  have h := codebook_of_fn (hm c)
  ⟨h.x, h.s, h.c, h.b, h.ascending, h.midpoint⟩

/-- The idealized kernel and the reference end with equal results: the reconstruction and the indices of the arguments'
    reals. -/
theorem algebraic : Cert.algebraic_KernelIdeal_ReferenceIdeal_pre_codebook
    (hKernelIdeal := Cert.KernelIdeal.Gen.facts) (hReferenceIdeal := Cert.ReferenceIdeal.Gen.facts) := by
  intro m g m' g' hm hargs
  refine ⟨fun c => Cert.KernelValue.G5 _ _ _ _, fun c => Cert.KernelValue.G6 _ _ _,
    (θ_run Cert.KernelIdeal.defs _ _).mono (fun r h c => ⟨(h c).1.trans (Cert.KernelValue.final5 (kernel_holds m hm c)),
      (h c).2.1.trans (Cert.KernelValue.final6 (kernel_holds m hm c)), (h c).2.2⟩) (Cert.KernelIdeal.Value.run_blocks (F := Ideal) m g),
    (θ_run Cert.ReferenceIdeal.defs _ _).mono (fun r h c => ?_) (Cert.ReferenceIdeal.Value.run (F := Ideal) m' g')⟩
  have k := kernel_holds m hm c
  obtain ⟨e0, e1, e2, e3⟩ := hargs c
  have H : Cert.Reference.Holds (StableHlo.launchContents m' c) _ _ _ _ :=
    ⟨fun i => (congrFun e0 i).trans (k.x i), fun i => (congrFun e1 i).trans (k.s i),
      fun i => (congrFun e2 i).trans (k.c i), fun i => (congrFun e3 i).trans (k.b i)⟩
  obtain ⟨h0, h1, h2⟩ := h c
  refine ⟨h0.trans (array_eq (Cert.Reference.recon_flat H)), h1.trans (funext fun i => ?_), h2⟩
  rw [← ix2_eta i]
  exact Cert.Reference.index_apply H (i 0) (i 1)

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_codebook
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel runs to its end, leaves its arguments unchanged and every semaphore counter at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized kernel under the precondition. -/
theorem frame_pi_pre [Cert.Pre_codebook.Facts] : Cert.quiescent_KernelIdeal_pre_codebook :=
  fun m ρ _ => Cert.KernelIdeal.Gen.frame m ρ

/-- The same of the reference, which declares no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same of the reference under the precondition. -/
theorem frame_ri_pre [Cert.Pre_codebook.Facts] : Cert.quiescent_ReferenceIdeal_pre_codebook := fun m ρ _ =>
  frame_ri m ρ trivial

/-- All the claims. -/
theorem claim : Cert.Claim := ⟨Cert.Kernel.Gen.facts, Cert.KernelIdeal.Gen.facts, Cert.ReferenceIdeal.Gen.facts, Cert.Pre_codebook.Gen.facts,
  frame_p, frame_pi, frame_pi_pre, frame_ri, frame_ri_pre, trivial, Cert.Algebraic.algebraic⟩

end Cert.Proof

end
